-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_coords [hPre_finite_coords : Cert.Pre_finite_coords.Facts] (m : (ℓ : Loc Cert.KernelIdeal.nD Cert.KernelIdeal.τ Cert.KernelIdeal.sig) → Buf (Elt Ideal) ℓ) : Prop :=
  ∀ c : Dev Cert.KernelIdeal.nD,
    (Cert.Pre_finite_coords.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_sparse_rows [hPre_sparse_rows : Cert.Pre_sparse_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sparse_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_FittedIdeal (m : (ℓ : Loc Cert.FittedIdeal.nD Cert.FittedIdeal.τ Cert.FittedIdeal.sig) → Buf (Elt Ideal) ℓ) : Prop :=
  True

def Pre_FittedIdeal_finite_coords [hPre_finite_coords : Cert.Pre_finite_coords.Facts] (m : (ℓ : Loc Cert.FittedIdeal.nD Cert.FittedIdeal.τ Cert.FittedIdeal.sig) → Buf (Elt Ideal) ℓ) : Prop :=
  ∀ c : Dev Cert.FittedIdeal.nD,
    (Cert.Pre_finite_coords.fn (F := Ideal) (m ((c.tc : Thread Cert.FittedIdeal.nD Cert.FittedIdeal.τ).loc Cert.FittedIdeal.main_arg0)) (m ((c.tc : Thread Cert.FittedIdeal.nD Cert.FittedIdeal.τ).loc Cert.FittedIdeal.main_arg1)) (m ((c.tc : Thread Cert.FittedIdeal.nD Cert.FittedIdeal.τ).loc Cert.FittedIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_coords [hKernelIdeal : Cert.KernelIdeal.Facts] [hPre_finite_coords : Cert.Pre_finite_coords.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_coords m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sparse_rows [hKernelIdeal : Cert.KernelIdeal.Facts] [hPre_sparse_rows : Cert.Pre_sparse_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sparse_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_FittedIdeal [hFittedIdeal : Cert.FittedIdeal.Facts] : Prop :=
  ∀ (m : (ℓ : Loc Cert.FittedIdeal.nD Cert.FittedIdeal.τ Cert.FittedIdeal.sig) → Buf (Elt Ideal) ℓ) (g : Dev Cert.FittedIdeal.nD → PrngReg), Pre_FittedIdeal m →
    θ_run (Cert.FittedIdeal.defs (F := Ideal)) (onTc (τ := Cert.FittedIdeal.τ) (Cert.FittedIdeal.main (F := Ideal))) ⟨m, fun _ => 0, g⟩ (fun r => (∀ c : Dev Cert.FittedIdeal.nD,
      r.2.mem ((c.tc : Thread Cert.FittedIdeal.nD Cert.FittedIdeal.τ).loc Cert.FittedIdeal.main_arg0) = m ((c.tc : Thread Cert.FittedIdeal.nD Cert.FittedIdeal.τ).loc Cert.FittedIdeal.main_arg0)
      ∧ r.2.mem ((c.tc : Thread Cert.FittedIdeal.nD Cert.FittedIdeal.τ).loc Cert.FittedIdeal.main_arg1) = m ((c.tc : Thread Cert.FittedIdeal.nD Cert.FittedIdeal.τ).loc Cert.FittedIdeal.main_arg1)
      ∧ r.2.mem ((c.tc : Thread Cert.FittedIdeal.nD Cert.FittedIdeal.τ).loc Cert.FittedIdeal.main_arg2) = m ((c.tc : Thread Cert.FittedIdeal.nD Cert.FittedIdeal.τ).loc Cert.FittedIdeal.main_arg2))
      ∧ r.2.sem = fun _ => 0)

def quiescent_FittedIdeal_pre_finite_coords [hFittedIdeal : Cert.FittedIdeal.Facts] [hPre_finite_coords : Cert.Pre_finite_coords.Facts] : Prop :=
  ∀ (m : (ℓ : Loc Cert.FittedIdeal.nD Cert.FittedIdeal.τ Cert.FittedIdeal.sig) → Buf (Elt Ideal) ℓ) (g : Dev Cert.FittedIdeal.nD → PrngReg), Pre_FittedIdeal_finite_coords m →
    θ_run (Cert.FittedIdeal.defs (F := Ideal)) (onTc (τ := Cert.FittedIdeal.τ) (Cert.FittedIdeal.main (F := Ideal))) ⟨m, fun _ => 0, g⟩ (fun r => (∀ c : Dev Cert.FittedIdeal.nD,
      r.2.mem ((c.tc : Thread Cert.FittedIdeal.nD Cert.FittedIdeal.τ).loc Cert.FittedIdeal.main_arg0) = m ((c.tc : Thread Cert.FittedIdeal.nD Cert.FittedIdeal.τ).loc Cert.FittedIdeal.main_arg0)
      ∧ r.2.mem ((c.tc : Thread Cert.FittedIdeal.nD Cert.FittedIdeal.τ).loc Cert.FittedIdeal.main_arg1) = m ((c.tc : Thread Cert.FittedIdeal.nD Cert.FittedIdeal.τ).loc Cert.FittedIdeal.main_arg1)
      ∧ r.2.mem ((c.tc : Thread Cert.FittedIdeal.nD Cert.FittedIdeal.τ).loc Cert.FittedIdeal.main_arg2) = m ((c.tc : Thread Cert.FittedIdeal.nD Cert.FittedIdeal.τ).loc Cert.FittedIdeal.main_arg2))
      ∧ r.2.sem = fun _ => 0)

def preserves_Kernel_KernelIdeal : Prop :=
  IdealRules.named_const.Statement Cert.KernelIdeal.κ "far" .f32 0x7149F2CA#32 ⊤
  ∧ IdealRules.named_const.Statement Cert.KernelIdeal.κ "decay0" .f32 0xC3F072FD#32 ((-(((Real.log 2) * (3 / 1000))⁻¹) : ℝ) : EReal)
  ∧ IdealRules.named_const.Statement Cert.KernelIdeal.κ "decay1" .f32 0xC4B4563E#32 ((-(((Real.log 2) * (1 / 1000))⁻¹) : ℝ) : EReal)
  ∧ IdealRules.named_const.Statement Cert.KernelIdeal.κ "decay2" .f32 0xC434563E#32 ((-(((Real.log 2) * (1 / 500))⁻¹) : ℝ) : EReal)
  ∧ IdealRules.named_const.Statement Cert.KernelIdeal.κ "ln2" .f32 0x3F317218#32 ((Real.log 2 : ℝ) : EReal)

def algebraic_KernelIdeal_FittedIdeal_pre_finite_coords [hKernelIdeal : Cert.KernelIdeal.Facts] [hFittedIdeal : Cert.FittedIdeal.Facts] [hPre_finite_coords : Cert.Pre_finite_coords.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.FittedIdeal.nD Cert.FittedIdeal.τ Cert.FittedIdeal.sig) → Buf (Elt Ideal) ℓ) (g' : Dev Cert.FittedIdeal.nD → PrngReg), Pre_KernelIdeal_finite_coords m →
    (∀ c : Dev Cert.KernelIdeal.nD,
      m' ((c.tc : Thread Cert.FittedIdeal.nD Cert.FittedIdeal.τ).loc Cert.FittedIdeal.main_arg0) = m ((c.tc : Thread Cert.KernelIdeal.nD Cert.KernelIdeal.τ).loc Cert.KernelIdeal.main_arg0)
      ∧ m' ((c.tc : Thread Cert.FittedIdeal.nD Cert.FittedIdeal.τ).loc Cert.FittedIdeal.main_arg1) = m ((c.tc : Thread Cert.KernelIdeal.nD Cert.KernelIdeal.τ).loc Cert.KernelIdeal.main_arg1)
      ∧ m' ((c.tc : Thread Cert.FittedIdeal.nD Cert.FittedIdeal.τ).loc Cert.FittedIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.FittedIdeal.defs (F := Ideal)) (onTc (τ := Cert.FittedIdeal.τ) (Cert.FittedIdeal.main (F := Ideal))) ⟨m', fun _ => 0, g'⟩ (fun r => ∀ c : Dev Cert.FittedIdeal.nD,
          r.2.mem ((c.tc : Thread Cert.FittedIdeal.nD Cert.FittedIdeal.τ).loc Cert.FittedIdeal.main_v53) = v0 c
          ∧ r.2.mem ((c.tc : Thread Cert.FittedIdeal.nD Cert.FittedIdeal.τ).loc Cert.FittedIdeal.main_v82) = v1 c
          ∧ r.2.mem ((c.tc : Thread Cert.FittedIdeal.nD Cert.FittedIdeal.τ).loc Cert.FittedIdeal.main_v111) = v2 c
          ∧ r.2.mem ((c.tc : Thread Cert.FittedIdeal.nD Cert.FittedIdeal.τ).loc Cert.FittedIdeal.main_arg0) = m' ((c.tc : Thread Cert.FittedIdeal.nD Cert.FittedIdeal.τ).loc Cert.FittedIdeal.main_arg0)
          ∧ r.2.mem ((c.tc : Thread Cert.FittedIdeal.nD Cert.FittedIdeal.τ).loc Cert.FittedIdeal.main_arg1) = m' ((c.tc : Thread Cert.FittedIdeal.nD Cert.FittedIdeal.τ).loc Cert.FittedIdeal.main_arg1)
          ∧ r.2.mem ((c.tc : Thread Cert.FittedIdeal.nD Cert.FittedIdeal.τ).loc Cert.FittedIdeal.main_arg2) = m' ((c.tc : Thread Cert.FittedIdeal.nD Cert.FittedIdeal.τ).loc Cert.FittedIdeal.main_arg2))

def holds_KernelIdeal_close_pre_sparse_rows [hKernelIdeal : Cert.KernelIdeal.Facts] [hPre_sparse_rows : Cert.Pre_sparse_rows.Facts] [hPost_close : Cert.Post_close.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sparse_rows m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ (Cert.Post_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v1_0)) (r.2.mem ((c.tc : Thread Cert.KernelIdeal.nD Cert.KernelIdeal.τ).loc Cert.KernelIdeal.main_v1_1)) (r.2.mem ((c.tc : Thread Cert.KernelIdeal.nD Cert.KernelIdeal.τ).loc Cert.KernelIdeal.main_v1_2))).1 = (fun _ => 1#1)
      ∧ (Cert.Post_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v1_0)) (r.2.mem ((c.tc : Thread Cert.KernelIdeal.nD Cert.KernelIdeal.τ).loc Cert.KernelIdeal.main_v1_1)) (r.2.mem ((c.tc : Thread Cert.KernelIdeal.nD Cert.KernelIdeal.τ).loc Cert.KernelIdeal.main_v1_2))).2.1 = (fun _ => 1#1)
      ∧ (Cert.Post_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v1_0)) (r.2.mem ((c.tc : Thread Cert.KernelIdeal.nD Cert.KernelIdeal.τ).loc Cert.KernelIdeal.main_v1_1)) (r.2.mem ((c.tc : Thread Cert.KernelIdeal.nD Cert.KernelIdeal.τ).loc Cert.KernelIdeal.main_v1_2))).2.2 = (fun _ => 1#1))

def Claim : Prop :=
  ∃ (hKernel : Cert.Kernel.Facts) (hKernelIdeal : Cert.KernelIdeal.Facts) (hFittedIdeal : Cert.FittedIdeal.Facts) (hPre_finite_coords : Cert.Pre_finite_coords.Facts) (hPre_sparse_rows : Cert.Pre_sparse_rows.Facts) (hPost_close : Cert.Post_close.Facts),
    quiescent_Kernel (hKernel := hKernel)
    ∧ quiescent_KernelIdeal (hKernelIdeal := hKernelIdeal)
    ∧ quiescent_KernelIdeal_pre_finite_coords (hKernelIdeal := hKernelIdeal) (hPre_finite_coords := hPre_finite_coords)
    ∧ quiescent_KernelIdeal_pre_sparse_rows (hKernelIdeal := hKernelIdeal) (hPre_sparse_rows := hPre_sparse_rows)
    ∧ quiescent_FittedIdeal (hFittedIdeal := hFittedIdeal)
    ∧ quiescent_FittedIdeal_pre_finite_coords (hFittedIdeal := hFittedIdeal) (hPre_finite_coords := hPre_finite_coords)
    ∧ preserves_Kernel_KernelIdeal
    ∧ algebraic_KernelIdeal_FittedIdeal_pre_finite_coords (hKernelIdeal := hKernelIdeal) (hFittedIdeal := hFittedIdeal) (hPre_finite_coords := hPre_finite_coords)
    ∧ holds_KernelIdeal_close_pre_sparse_rows (hKernelIdeal := hKernelIdeal) (hPre_sparse_rows := hPre_sparse_rows) (hPost_close := hPost_close)
-- ==== Post_close.lean ====
abbrev S4096x256 : Shape := ⟨2, ![4096, 256]⟩
abbrev S4096x2 : Shape := ⟨2, ![4096, 2]⟩
abbrev S3x256x256 : Shape := ⟨3, ![3, 256, 256]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S1x256x256 : Shape := ⟨3, ![1, 256, 256]⟩
abbrev S256x256 : Shape := ⟨2, ![256, 256]⟩
abbrev S256x4096 : Shape := ⟨2, ![256, 4096]⟩
abbrev S_ : Shape := ⟨0, ![]⟩
abbrev S4096x20 : Shape := ⟨2, ![4096, 20]⟩
abbrev S4096x20x1 : Shape := ⟨3, ![4096, 20, 1]⟩
abbrev S4096x20x2 : Shape := ⟨3, ![4096, 20, 2]⟩

class Facts : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  slices_S4096x2_S4096x1_0_0 : S4096x2.Slices ![0, 0] S4096x1
  transposes_S4096x1_S1x4096_1_0 : S4096x1.Transposes [1, 0] S1x4096
  slices_S4096x2_S4096x1_0_1 : S4096x2.Slices ![0, 1] S4096x1
  slices_S3x256x256_S1x256x256_0_0_0 : S3x256x256.Slices ![0, 0, 0] S1x256x256
  shapeCasts_S1x256x256_S256x256 : S1x256x256.ShapeCasts S256x256
  transposes_S4096x256_S256x4096_1_0 : S4096x256.Transposes [1, 0] S256x4096
  bcast_S_S4096x4096 : S_.BroadcastsInDim S4096x4096 (![] : Fin 0 → Fin S4096x4096.rank)
  sliceFits_S4096x4096_S4096x20 : S4096x4096.Slices (fun _ => 0) S4096x20
  bcast_S_S4096x1 : S_.BroadcastsInDim S4096x1 (![] : Fin 0 → Fin S4096x1.rank)
  bcast_S_S4096x20 : S_.BroadcastsInDim S4096x20 (![] : Fin 0 → Fin S4096x20.rank)
  bcast_S4096x1_S4096x20_0_1 : S4096x1.BroadcastsInDim S4096x20 (![0, 1] : Fin 2 → Fin S4096x20.rank)
  bcast_S4096x20_S4096x20x1_0_1 : S4096x20.BroadcastsInDim S4096x20x1 (![0, 1] : Fin 2 → Fin S4096x20x1.rank)
  concatenates_S4096x20x1_S4096x20x1_S4096x20x2_d2 : Shape.Concatenates [S4096x20x1, S4096x20x1] S4096x20x2 2
  slices_S3x256x256_S1x256x256_1_0_0 : S3x256x256.Slices ![1, 0, 0] S1x256x256
  slices_S3x256x256_S1x256x256_2_0_0 : S3x256x256.Slices ![2, 0, 0] S1x256x256
  dot_S4096x256_S256x256_S4096x256_1_0_0_1_n_n_wf : DotDims.WF S4096x256 S256x256 S4096x256 [1] [0] [0] [1] [] []
  dot_S4096x256_S256x4096_S4096x4096_1_0_0_1_n_n_wf : DotDims.WF S4096x256 S256x4096 S4096x4096 [1] [0] [0] [1] [] []
  scatter_S4096x4096_S4096x20x2_S4096x20_n_01_01_2_wf : ScatterDims.WF S4096x4096 S4096x20x2 S4096x20 [] [0, 1] [0, 1] 2

variable [Facts]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def scatter_S4096x4096_S4096x20x2_S4096x20_n_01_01_2 : ScatterDims S4096x4096 S4096x20x2 S4096x20 where
  updateWindowDims := []
  insertedWindowDims := [0, 1]
  scatterDimsToOperandDims := [0, 1]
  indexVectorDim := 2
  wf := scatter_S4096x4096_S4096x20x2_S4096x20_n_01_01_2_wf
def fn_where {F : FTy → Type} [FloatOps F] (arg0 : IVec S4096x4096 1) (arg1 : FVec F S4096x4096 .f32) (arg2 : FVec F S_ .f32) : FVec F S4096x4096 .f32 :=
  let v0 : FVec F S_ .f32 := id arg2
  let v1 : FVec F S4096x4096 .f32 := broadcastInDim S4096x4096 ![] bcast_S_S4096x4096 v0
  let v2 : FVec F S4096x4096 .f32 := select arg0 arg1 v1
  v2

def fn_softplus {F : FTy → Type} [FloatOps F] (arg0 : FVec F S4096x4096 .f32) : FVec F S4096x4096 .f32 :=
  let cst : FVec F S_ .f32 := constant S_ .f32 0x00000000#32
  let v0 : FVec F S4096x4096 .f32 := broadcastInDim S4096x4096 ![] bcast_S_S4096x4096 cst
  let v1 : FVec F S4096x4096 .f32 := maximumf arg0 v0
  let v2 : FVec F S4096x4096 .f32 := broadcastInDim S4096x4096 ![] bcast_S_S4096x4096 cst
  let v3 : FVec F S4096x4096 .f32 := subf arg0 v2
  let v4 : IVec S4096x4096 1 := cmpf .une v3 v3
  let v5 : FVec F S4096x4096 .f32 := broadcastInDim S4096x4096 ![] bcast_S_S4096x4096 cst
  let v6 : FVec F S4096x4096 .f32 := addf arg0 v5
  let v7 : FVec F S4096x4096 .f32 := Host.absf v3
  let v8 : FVec F S4096x4096 .f32 := Host.negf v7
  let v9 : FVec F S4096x4096 .f32 := Host.exp v8
  let v10 : FVec F S4096x4096 .f32 := Host.log1p v9
  let v11 : FVec F S4096x4096 .f32 := addf v1 v10
  let v12 : FVec F S4096x4096 .f32 := select v4 v6 v11
  v12

def fn_part7 {F : FTy → Type} [FloatOps F] (main_arg3 : FVec F S4096x4096 .f32) (main_arg4 : FVec F S4096x4096 .f32) (main_arg5 : FVec F S4096x4096 .f32) (main_v62 : FVec F S4096x4096 .f32) (main_v100 : FVec F S4096x4096 .f32) (main_v120 : FVec F S4096x4096 .f32) (main_v121 : FVec F S4096x4096 .f32) (main_v131 : IVec S4096x20 32) (main_v132 : IVec S4096x20 32) : IVec S4096x4096 1 × IVec S4096x4096 1 × IVec S4096x4096 1 :=
  let main_v133 : IVec S4096x20x1 32 := broadcastInDim S4096x20x1 ![0, 1] bcast_S4096x20_S4096x20x1_0_1 main_v132
  let main_v134 : IVec S4096x20x1 32 := broadcastInDim S4096x20x1 ![0, 1] bcast_S4096x20_S4096x20x1_0_1 main_v131
  let main_v135 : IVec S4096x20x2 32 := (fun a b => concatenate S4096x20x2 2 [⟨S4096x20x1, a⟩, ⟨S4096x20x1, b⟩] concatenates_S4096x20x1_S4096x20x1_S4096x20x2_d2) main_v133 main_v134
  let main_cst_31 : FVec F S_ .f32 := constant S_ .f32 0x3F800000#32
  let main_v136 : FVec F S4096x20 .f32 := broadcastInDim S4096x20 ![] bcast_S_S4096x20 main_cst_31
  let main_v137 : FVec F S4096x4096 .f32 := (fun x i u => Host.scatter scatter_S4096x4096_S4096x20x2_S4096x20_n_01_01_2 (fun _ b => b) x i u) main_v121 main_v135 main_v136
  let main_v138 : FVec F S4096x4096 .f32 := mulf main_v137 main_v120
  let main_v139 : FVec F S4096x4096 .f32 := subf main_arg3 main_v62
  let main_v140 : FVec F S4096x4096 .f32 := Host.absf main_v139
  let main_cst_32 : FVec F S_ .f32 := constant S_ .f32 0x3B23D70A#32
  let main_v141 : FVec F S4096x4096 .f32 := broadcastInDim S4096x4096 ![] bcast_S_S4096x4096 main_cst_32
  let main_v142 : IVec S4096x4096 1 := cmpf .ole main_v140 main_v141
  let main_v143 : FVec F S4096x4096 .f32 := subf main_arg4 main_v100
  let main_v144 : FVec F S4096x4096 .f32 := Host.absf main_v143
  let main_cst_33 : FVec F S_ .f32 := constant S_ .f32 0x3B23D70A#32
  let main_v145 : FVec F S4096x4096 .f32 := broadcastInDim S4096x4096 ![] bcast_S_S4096x4096 main_cst_33
  let main_v146 : IVec S4096x4096 1 := cmpf .ole main_v144 main_v145
  let main_v147 : FVec F S4096x4096 .f32 := subf main_arg5 main_v138
  let main_v148 : FVec F S4096x4096 .f32 := Host.absf main_v147
  let main_cst_34 : FVec F S_ .f32 := constant S_ .f32 0x3B23D70A#32
  let main_v149 : FVec F S4096x4096 .f32 := broadcastInDim S4096x4096 ![] bcast_S_S4096x4096 main_cst_34
  let main_v150 : IVec S4096x4096 1 := cmpf .ole main_v148 main_v149
  (main_v142, main_v146, main_v150)

def fn_part6 {F : FTy → Type} [FloatOps F] (main_arg3 : FVec F S4096x4096 .f32) (main_arg4 : FVec F S4096x4096 .f32) (main_arg5 : FVec F S4096x4096 .f32) (main_v24 : IVec S4096x1 32) (main_v62 : FVec F S4096x4096 .f32) (main_v100 : FVec F S4096x4096 .f32) (main_v111 : FVec F S4096x4096 .f32) (main_v114 : FVec F S4096x4096 .f32) (main_v115 : FVec F S4096x4096 .f32) (main_cst_23 : FVec F S_ .f32) : IVec S4096x4096 1 × IVec S4096x4096 1 × IVec S4096x4096 1 :=
  let main_v116 : FVec F S4096x4096 .f32 := broadcastInDim S4096x4096 ![] bcast_S_S4096x4096 main_cst_23
  let main_v117 : FVec F S4096x4096 .f32 := Host.divf main_v115 main_v116
  let main_v118 : FVec F S4096x4096 .f32 := Host.exp main_v117
  let main_v119 : FVec F S4096x4096 .f32 := mulf main_v118 main_v114
  let main_v120 : FVec F S4096x4096 .f32 := mulf main_v119 main_v111
  let main_values_24 : FVec F S4096x20 .f32 := (fun x => (Host.topK S4096x20 1 (FloatOps.cmpfTotal .gt) x sliceFits_S4096x4096_S4096x20).1) main_v120
  let main_indices_25 : IVec S4096x20 32 := (fun x => (Host.topK S4096x20 1 (FloatOps.cmpfTotal .gt) x sliceFits_S4096x4096_S4096x20).2) main_v120
  let main_cst_26 : FVec F S_ .f32 := constant S_ .f32 0x00000000#32
  let main_v121 : FVec F S4096x4096 .f32 := broadcastInDim S4096x4096 ![] bcast_S_S4096x4096 main_cst_26
  let main_c_27 : IVec S_ 32 := constantI S_ 32 0#32
  let main_v122 : IVec S4096x1 32 := broadcastInDim S4096x1 ![] bcast_S_S4096x1 main_c_27
  let main_v123 : IVec S4096x1 1 := cmpi .slt main_v24 main_v122
  let main_c_28 : IVec S_ 32 := constantI S_ 32 4096#32
  let main_v124 : IVec S4096x1 32 := broadcastInDim S4096x1 ![] bcast_S_S4096x1 main_c_28
  let main_v125 : IVec S4096x1 32 := addi main_v24 main_v124
  let main_v126 : IVec S4096x1 32 := select main_v123 main_v125 main_v24
  let main_c_29 : IVec S_ 32 := constantI S_ 32 0#32
  let main_v127 : IVec S4096x20 32 := broadcastInDim S4096x20 ![] bcast_S_S4096x20 main_c_29
  let main_v128 : IVec S4096x20 1 := cmpi .slt main_indices_25 main_v127
  let main_c_30 : IVec S_ 32 := constantI S_ 32 4096#32
  let main_v129 : IVec S4096x20 32 := broadcastInDim S4096x20 ![] bcast_S_S4096x20 main_c_30
  let main_v130 : IVec S4096x20 32 := addi main_indices_25 main_v129
  let main_v131 : IVec S4096x20 32 := select main_v128 main_v130 main_indices_25
  let main_v132 : IVec S4096x20 32 := broadcastInDim S4096x20 ![0, 1] bcast_S4096x1_S4096x20_0_1 main_v126
  fn_part7 (F := F) main_arg3 main_arg4 main_arg5 main_v62 main_v100 main_v120 main_v121 main_v131 main_v132

def fn_part5 {F : FTy → Type} [FloatOps F] (main_arg0 : FVec F S4096x256 .f32) (main_arg2 : FVec F S3x256x256 .f32) (main_arg3 : FVec F S4096x4096 .f32) (main_arg4 : FVec F S4096x4096 .f32) (main_arg5 : FVec F S4096x4096 .f32) (main_v6 : IVec S4096x4096 1) (main_v22 : FVec F S4096x4096 .f32) (main_v24 : IVec S4096x1 32) (main_v62 : FVec F S4096x4096 .f32) (main_v82 : FVec F S4096x4096 .f32) (main_v83 : FVec F S4096x4096 .f32) (main_v95 : IVec S4096x20x1 32) (main_v96 : IVec S4096x20x1 32) : IVec S4096x4096 1 × IVec S4096x4096 1 × IVec S4096x4096 1 :=
  let main_v97 : IVec S4096x20x2 32 := (fun a b => concatenate S4096x20x2 2 [⟨S4096x20x1, a⟩, ⟨S4096x20x1, b⟩] concatenates_S4096x20x1_S4096x20x1_S4096x20x2_d2) main_v95 main_v96
  let main_cst_19 : FVec F S_ .f32 := constant S_ .f32 0x3F800000#32
  let main_v98 : FVec F S4096x20 .f32 := broadcastInDim S4096x20 ![] bcast_S_S4096x20 main_cst_19
  let main_v99 : FVec F S4096x4096 .f32 := (fun x i u => Host.scatter scatter_S4096x4096_S4096x20x2_S4096x20_n_01_01_2 (fun _ b => b) x i u) main_v83 main_v97 main_v98
  let main_v100 : FVec F S4096x4096 .f32 := mulf main_v99 main_v82
  let main_v101 : FVec F S1x256x256 .f32 := (extractStridedSlice S1x256x256 ![2, 0, 0] · slices_S3x256x256_S1x256x256_2_0_0) main_arg2
  let main_v102 : FVec F S256x256 .f32 := shapeCast S256x256 main_v101 shapeCasts_S1x256x256_S256x256
  let main_v103 : FVec F S4096x256 .f32 := (fun l r => Host.dotGeneral dot_S4096x256_S256x256_S4096x256_1_0_0_1_n_n none l r) main_arg0 main_v102
  let main_v104 : FVec F S256x4096 .f32 := (transpose S256x4096 [1, 0] · transposes_S4096x256_S256x4096_1_0) main_arg0
  let main_v105 : FVec F S4096x4096 .f32 := (fun l r => Host.dotGeneral dot_S4096x256_S256x4096_S4096x4096_1_0_0_1_n_n none l r) main_v103 main_v104
  let main_cst_20 : FVec F S_ .f32 := constant S_ .f32 0x40800000#32
  let main_v106 : FVec F S4096x4096 .f32 := broadcastInDim S4096x4096 ![] bcast_S_S4096x4096 main_cst_20
  let main_v107 : FVec F S4096x4096 .f32 := Host.divf main_v105 main_v106
  let main_v108 : FVec F S4096x4096 .f32 := Host.tanh main_v107
  let main_cst_21 : FVec F S_ .f32 := constant S_ .f32 0x00000000#32
  let main_v109 : FVec F S4096x4096 .f32 := fn_where (F := F) main_v6 main_v108 main_cst_21
  let main_v110 : FVec F S4096x4096 .f32 := subf main_v108 main_v109
  let main_v111 : FVec F S4096x4096 .f32 := fn_softplus (F := F) main_v110
  let main_cst_22 : FVec F S_ .f32 := constant S_ .f32 0x3C23D70A#32
  let main_v112 : FVec F S4096x4096 .f32 := broadcastInDim S4096x4096 ![] bcast_S_S4096x4096 main_cst_22
  let main_v113 : IVec S4096x4096 1 := cmpf .ole main_v22 main_v112
  let main_v114 : FVec F S4096x4096 .f32 := uitofp .f32 main_v113
  let main_v115 : FVec F S4096x4096 .f32 := Host.negf main_v22
  let main_cst_23 : FVec F S_ .f32 := constant S_ .f32 0x3B03126F#32
  fn_part6 (F := F) main_arg3 main_arg4 main_arg5 main_v24 main_v62 main_v100 main_v111 main_v114 main_v115 main_cst_23

def fn_part4 {F : FTy → Type} [FloatOps F] (main_arg0 : FVec F S4096x256 .f32) (main_arg2 : FVec F S3x256x256 .f32) (main_arg3 : FVec F S4096x4096 .f32) (main_arg4 : FVec F S4096x4096 .f32) (main_arg5 : FVec F S4096x4096 .f32) (main_v6 : IVec S4096x4096 1) (main_v22 : FVec F S4096x4096 .f32) (main_v24 : IVec S4096x1 32) (main_v62 : FVec F S4096x4096 .f32) (main_v73 : FVec F S4096x4096 .f32) (main_v76 : FVec F S4096x4096 .f32) (main_v79 : FVec F S4096x4096 .f32) : IVec S4096x4096 1 × IVec S4096x4096 1 × IVec S4096x4096 1 :=
  let main_v80 : FVec F S4096x4096 .f32 := Host.exp main_v79
  let main_v81 : FVec F S4096x4096 .f32 := mulf main_v80 main_v76
  let main_v82 : FVec F S4096x4096 .f32 := mulf main_v81 main_v73
  let main_values_12 : FVec F S4096x20 .f32 := (fun x => (Host.topK S4096x20 1 (FloatOps.cmpfTotal .gt) x sliceFits_S4096x4096_S4096x20).1) main_v82
  let main_indices_13 : IVec S4096x20 32 := (fun x => (Host.topK S4096x20 1 (FloatOps.cmpfTotal .gt) x sliceFits_S4096x4096_S4096x20).2) main_v82
  let main_cst_14 : FVec F S_ .f32 := constant S_ .f32 0x00000000#32
  let main_v83 : FVec F S4096x4096 .f32 := broadcastInDim S4096x4096 ![] bcast_S_S4096x4096 main_cst_14
  let main_c_15 : IVec S_ 32 := constantI S_ 32 0#32
  let main_v84 : IVec S4096x1 32 := broadcastInDim S4096x1 ![] bcast_S_S4096x1 main_c_15
  let main_v85 : IVec S4096x1 1 := cmpi .slt main_v24 main_v84
  let main_c_16 : IVec S_ 32 := constantI S_ 32 4096#32
  let main_v86 : IVec S4096x1 32 := broadcastInDim S4096x1 ![] bcast_S_S4096x1 main_c_16
  let main_v87 : IVec S4096x1 32 := addi main_v24 main_v86
  let main_v88 : IVec S4096x1 32 := select main_v85 main_v87 main_v24
  let main_c_17 : IVec S_ 32 := constantI S_ 32 0#32
  let main_v89 : IVec S4096x20 32 := broadcastInDim S4096x20 ![] bcast_S_S4096x20 main_c_17
  let main_v90 : IVec S4096x20 1 := cmpi .slt main_indices_13 main_v89
  let main_c_18 : IVec S_ 32 := constantI S_ 32 4096#32
  let main_v91 : IVec S4096x20 32 := broadcastInDim S4096x20 ![] bcast_S_S4096x20 main_c_18
  let main_v92 : IVec S4096x20 32 := addi main_indices_13 main_v91
  let main_v93 : IVec S4096x20 32 := select main_v90 main_v92 main_indices_13
  let main_v94 : IVec S4096x20 32 := broadcastInDim S4096x20 ![0, 1] bcast_S4096x1_S4096x20_0_1 main_v88
  let main_v95 : IVec S4096x20x1 32 := broadcastInDim S4096x20x1 ![0, 1] bcast_S4096x20_S4096x20x1_0_1 main_v94
  let main_v96 : IVec S4096x20x1 32 := broadcastInDim S4096x20x1 ![0, 1] bcast_S4096x20_S4096x20x1_0_1 main_v93
  fn_part5 (F := F) main_arg0 main_arg2 main_arg3 main_arg4 main_arg5 main_v6 main_v22 main_v24 main_v62 main_v82 main_v83 main_v95 main_v96

def fn_part3 {F : FTy → Type} [FloatOps F] (main_arg0 : FVec F S4096x256 .f32) (main_arg2 : FVec F S3x256x256 .f32) (main_arg3 : FVec F S4096x4096 .f32) (main_arg4 : FVec F S4096x4096 .f32) (main_arg5 : FVec F S4096x4096 .f32) (main_v6 : IVec S4096x4096 1) (main_v22 : FVec F S4096x4096 .f32) (main_v24 : IVec S4096x1 32) (main_v44 : FVec F S4096x4096 .f32) (main_v45 : FVec F S4096x4096 .f32) (main_v59 : IVec S4096x20x2 32) (main_cst_7 : FVec F S_ .f32) : IVec S4096x4096 1 × IVec S4096x4096 1 × IVec S4096x4096 1 :=
  let main_v60 : FVec F S4096x20 .f32 := broadcastInDim S4096x20 ![] bcast_S_S4096x20 main_cst_7
  let main_v61 : FVec F S4096x4096 .f32 := (fun x i u => Host.scatter scatter_S4096x4096_S4096x20x2_S4096x20_n_01_01_2 (fun _ b => b) x i u) main_v45 main_v59 main_v60
  let main_v62 : FVec F S4096x4096 .f32 := mulf main_v61 main_v44
  let main_v63 : FVec F S1x256x256 .f32 := (extractStridedSlice S1x256x256 ![1, 0, 0] · slices_S3x256x256_S1x256x256_1_0_0) main_arg2
  let main_v64 : FVec F S256x256 .f32 := shapeCast S256x256 main_v63 shapeCasts_S1x256x256_S256x256
  let main_v65 : FVec F S4096x256 .f32 := (fun l r => Host.dotGeneral dot_S4096x256_S256x256_S4096x256_1_0_0_1_n_n none l r) main_arg0 main_v64
  let main_v66 : FVec F S256x4096 .f32 := (transpose S256x4096 [1, 0] · transposes_S4096x256_S256x4096_1_0) main_arg0
  let main_v67 : FVec F S4096x4096 .f32 := (fun l r => Host.dotGeneral dot_S4096x256_S256x4096_S4096x4096_1_0_0_1_n_n none l r) main_v65 main_v66
  let main_cst_8 : FVec F S_ .f32 := constant S_ .f32 0x40800000#32
  let main_v68 : FVec F S4096x4096 .f32 := broadcastInDim S4096x4096 ![] bcast_S_S4096x4096 main_cst_8
  let main_v69 : FVec F S4096x4096 .f32 := Host.divf main_v67 main_v68
  let main_v70 : FVec F S4096x4096 .f32 := Host.tanh main_v69
  let main_cst_9 : FVec F S_ .f32 := constant S_ .f32 0x00000000#32
  let main_v71 : FVec F S4096x4096 .f32 := fn_where (F := F) main_v6 main_v70 main_cst_9
  let main_v72 : FVec F S4096x4096 .f32 := subf main_v70 main_v71
  let main_v73 : FVec F S4096x4096 .f32 := fn_softplus (F := F) main_v72
  let main_cst_10 : FVec F S_ .f32 := constant S_ .f32 0x3C23D70A#32
  let main_v74 : FVec F S4096x4096 .f32 := broadcastInDim S4096x4096 ![] bcast_S_S4096x4096 main_cst_10
  let main_v75 : IVec S4096x4096 1 := cmpf .ole main_v22 main_v74
  let main_v76 : FVec F S4096x4096 .f32 := uitofp .f32 main_v75
  let main_v77 : FVec F S4096x4096 .f32 := Host.negf main_v22
  let main_cst_11 : FVec F S_ .f32 := constant S_ .f32 0x3A83126F#32
  let main_v78 : FVec F S4096x4096 .f32 := broadcastInDim S4096x4096 ![] bcast_S_S4096x4096 main_cst_11
  let main_v79 : FVec F S4096x4096 .f32 := Host.divf main_v77 main_v78
  fn_part4 (F := F) main_arg0 main_arg2 main_arg3 main_arg4 main_arg5 main_v6 main_v22 main_v24 main_v62 main_v73 main_v76 main_v79

def fn_part2 {F : FTy → Type} [FloatOps F] (main_arg0 : FVec F S4096x256 .f32) (main_arg2 : FVec F S3x256x256 .f32) (main_arg3 : FVec F S4096x4096 .f32) (main_arg4 : FVec F S4096x4096 .f32) (main_arg5 : FVec F S4096x4096 .f32) (main_v6 : IVec S4096x4096 1) (main_v22 : FVec F S4096x4096 .f32) (main_v24 : IVec S4096x1 32) (main_v35 : FVec F S4096x4096 .f32) (main_v43 : FVec F S4096x4096 .f32) : IVec S4096x4096 1 × IVec S4096x4096 1 × IVec S4096x4096 1 :=
  let main_v44 : FVec F S4096x4096 .f32 := mulf main_v43 main_v35
  let main_values : FVec F S4096x20 .f32 := (fun x => (Host.topK S4096x20 1 (FloatOps.cmpfTotal .gt) x sliceFits_S4096x4096_S4096x20).1) main_v44
  let main_indices : IVec S4096x20 32 := (fun x => (Host.topK S4096x20 1 (FloatOps.cmpfTotal .gt) x sliceFits_S4096x4096_S4096x20).2) main_v44
  let main_cst_3 : FVec F S_ .f32 := constant S_ .f32 0x00000000#32
  let main_v45 : FVec F S4096x4096 .f32 := broadcastInDim S4096x4096 ![] bcast_S_S4096x4096 main_cst_3
  let main_c : IVec S_ 32 := constantI S_ 32 0#32
  let main_v46 : IVec S4096x1 32 := broadcastInDim S4096x1 ![] bcast_S_S4096x1 main_c
  let main_v47 : IVec S4096x1 1 := cmpi .slt main_v24 main_v46
  let main_c_4 : IVec S_ 32 := constantI S_ 32 4096#32
  let main_v48 : IVec S4096x1 32 := broadcastInDim S4096x1 ![] bcast_S_S4096x1 main_c_4
  let main_v49 : IVec S4096x1 32 := addi main_v24 main_v48
  let main_v50 : IVec S4096x1 32 := select main_v47 main_v49 main_v24
  let main_c_5 : IVec S_ 32 := constantI S_ 32 0#32
  let main_v51 : IVec S4096x20 32 := broadcastInDim S4096x20 ![] bcast_S_S4096x20 main_c_5
  let main_v52 : IVec S4096x20 1 := cmpi .slt main_indices main_v51
  let main_c_6 : IVec S_ 32 := constantI S_ 32 4096#32
  let main_v53 : IVec S4096x20 32 := broadcastInDim S4096x20 ![] bcast_S_S4096x20 main_c_6
  let main_v54 : IVec S4096x20 32 := addi main_indices main_v53
  let main_v55 : IVec S4096x20 32 := select main_v52 main_v54 main_indices
  let main_v56 : IVec S4096x20 32 := broadcastInDim S4096x20 ![0, 1] bcast_S4096x1_S4096x20_0_1 main_v50
  let main_v57 : IVec S4096x20x1 32 := broadcastInDim S4096x20x1 ![0, 1] bcast_S4096x20_S4096x20x1_0_1 main_v56
  let main_v58 : IVec S4096x20x1 32 := broadcastInDim S4096x20x1 ![0, 1] bcast_S4096x20_S4096x20x1_0_1 main_v55
  let main_v59 : IVec S4096x20x2 32 := (fun a b => concatenate S4096x20x2 2 [⟨S4096x20x1, a⟩, ⟨S4096x20x1, b⟩] concatenates_S4096x20x1_S4096x20x1_S4096x20x2_d2) main_v57 main_v58
  let main_cst_7 : FVec F S_ .f32 := constant S_ .f32 0x3F800000#32
  fn_part3 (F := F) main_arg0 main_arg2 main_arg3 main_arg4 main_arg5 main_v6 main_v22 main_v24 main_v44 main_v45 main_v59 main_cst_7

def fn_part1 {F : FTy → Type} [FloatOps F] (main_arg0 : FVec F S4096x256 .f32) (main_arg2 : FVec F S3x256x256 .f32) (main_arg3 : FVec F S4096x4096 .f32) (main_arg4 : FVec F S4096x4096 .f32) (main_arg5 : FVec F S4096x4096 .f32) (main_v6 : IVec S4096x4096 1) (main_v22 : FVec F S4096x4096 .f32) (main_v23 : IVec S4096 32) : IVec S4096x4096 1 × IVec S4096x4096 1 × IVec S4096x4096 1 :=
  let main_v24 : IVec S4096x1 32 := broadcastInDim S4096x1 ![0] bcast_S4096_S4096x1_0 main_v23
  let main_v25 : FVec F S1x256x256 .f32 := (extractStridedSlice S1x256x256 ![0, 0, 0] · slices_S3x256x256_S1x256x256_0_0_0) main_arg2
  let main_v26 : FVec F S256x256 .f32 := shapeCast S256x256 main_v25 shapeCasts_S1x256x256_S256x256
  let main_v27 : FVec F S4096x256 .f32 := (fun l r => Host.dotGeneral dot_S4096x256_S256x256_S4096x256_1_0_0_1_n_n none l r) main_arg0 main_v26
  let main_v28 : FVec F S256x4096 .f32 := (transpose S256x4096 [1, 0] · transposes_S4096x256_S256x4096_1_0) main_arg0
  let main_v29 : FVec F S4096x4096 .f32 := (fun l r => Host.dotGeneral dot_S4096x256_S256x4096_S4096x4096_1_0_0_1_n_n none l r) main_v27 main_v28
  let main_cst : FVec F S_ .f32 := constant S_ .f32 0x40800000#32
  let main_v30 : FVec F S4096x4096 .f32 := broadcastInDim S4096x4096 ![] bcast_S_S4096x4096 main_cst
  let main_v31 : FVec F S4096x4096 .f32 := Host.divf main_v29 main_v30
  let main_v32 : FVec F S4096x4096 .f32 := Host.tanh main_v31
  let main_cst_0 : FVec F S_ .f32 := constant S_ .f32 0x00000000#32
  let main_v33 : FVec F S4096x4096 .f32 := fn_where (F := F) main_v6 main_v32 main_cst_0
  let main_v34 : FVec F S4096x4096 .f32 := subf main_v32 main_v33
  let main_v35 : FVec F S4096x4096 .f32 := fn_softplus (F := F) main_v34
  let main_cst_1 : FVec F S_ .f32 := constant S_ .f32 0x3C23D70A#32
  let main_v36 : FVec F S4096x4096 .f32 := broadcastInDim S4096x4096 ![] bcast_S_S4096x4096 main_cst_1
  let main_v37 : IVec S4096x4096 1 := cmpf .ole main_v22 main_v36
  let main_v38 : FVec F S4096x4096 .f32 := uitofp .f32 main_v37
  let main_v39 : FVec F S4096x4096 .f32 := Host.negf main_v22
  let main_cst_2 : FVec F S_ .f32 := constant S_ .f32 0x3B449BA6#32
  let main_v40 : FVec F S4096x4096 .f32 := broadcastInDim S4096x4096 ![] bcast_S_S4096x4096 main_cst_2
  let main_v41 : FVec F S4096x4096 .f32 := Host.divf main_v39 main_v40
  let main_v42 : FVec F S4096x4096 .f32 := Host.exp main_v41
  let main_v43 : FVec F S4096x4096 .f32 := mulf main_v42 main_v38
  fn_part2 (F := F) main_arg0 main_arg2 main_arg3 main_arg4 main_arg5 main_v6 main_v22 main_v24 main_v35 main_v43

def fn {F : FTy → Type} [FloatOps F] (main_arg0 : FVec F S4096x256 .f32) (main_arg1 : FVec F S4096x2 .f32) (main_arg2 : FVec F S3x256x256 .f32) (main_arg3 : FVec F S4096x4096 .f32) (main_arg4 : FVec F S4096x4096 .f32) (main_arg5 : FVec F S4096x4096 .f32) : IVec S4096x4096 1 × IVec S4096x4096 1 × IVec S4096x4096 1 :=
  let main_v0 : IVec S4096 32 := iotaInDim S4096 32 0
  let main_v1 : IVec S4096x1 32 := broadcastInDim S4096x1 ![0] bcast_S4096_S4096x1_0 main_v0
  let main_v2 : IVec S4096 32 := iotaInDim S4096 32 0
  let main_v3 : IVec S1x4096 32 := broadcastInDim S1x4096 ![1] bcast_S4096_S1x4096_1 main_v2
  let main_v4 : IVec S4096x4096 32 := broadcastInDim S4096x4096 ![0, 1] bcast_S4096x1_S4096x4096_0_1 main_v1
  let main_v5 : IVec S4096x4096 32 := broadcastInDim S4096x4096 ![0, 1] bcast_S1x4096_S4096x4096_0_1 main_v3
  let main_v6 : IVec S4096x4096 1 := cmpi .eq main_v4 main_v5
  let main_v7 : FVec F S4096x1 .f32 := (extractStridedSlice S4096x1 ![0, 0] · slices_S4096x2_S4096x1_0_0) main_arg1
  let main_v8 : FVec F S4096x1 .f32 := (extractStridedSlice S4096x1 ![0, 0] · slices_S4096x2_S4096x1_0_0) main_arg1
  let main_v9 : FVec F S1x4096 .f32 := (transpose S1x4096 [1, 0] · transposes_S4096x1_S1x4096_1_0) main_v8
  let main_v10 : FVec F S4096x4096 .f32 := broadcastInDim S4096x4096 ![0, 1] bcast_S4096x1_S4096x4096_0_1 main_v7
  let main_v11 : FVec F S4096x4096 .f32 := broadcastInDim S4096x4096 ![0, 1] bcast_S1x4096_S4096x4096_0_1 main_v9
  let main_v12 : FVec F S4096x4096 .f32 := subf main_v10 main_v11
  let main_v13 : FVec F S4096x1 .f32 := (extractStridedSlice S4096x1 ![0, 1] · slices_S4096x2_S4096x1_0_1) main_arg1
  let main_v14 : FVec F S4096x1 .f32 := (extractStridedSlice S4096x1 ![0, 1] · slices_S4096x2_S4096x1_0_1) main_arg1
  let main_v15 : FVec F S1x4096 .f32 := (transpose S1x4096 [1, 0] · transposes_S4096x1_S1x4096_1_0) main_v14
  let main_v16 : FVec F S4096x4096 .f32 := broadcastInDim S4096x4096 ![0, 1] bcast_S4096x1_S4096x4096_0_1 main_v13
  let main_v17 : FVec F S4096x4096 .f32 := broadcastInDim S4096x4096 ![0, 1] bcast_S1x4096_S4096x4096_0_1 main_v15
  let main_v18 : FVec F S4096x4096 .f32 := subf main_v16 main_v17
  let main_v19 : FVec F S4096x4096 .f32 := mulf main_v12 main_v12
  let main_v20 : FVec F S4096x4096 .f32 := mulf main_v18 main_v18
  let main_v21 : FVec F S4096x4096 .f32 := addf main_v19 main_v20
  let main_v22 : FVec F S4096x4096 .f32 := Host.sqrt main_v21
  let main_v23 : IVec S4096 32 := iotaInDim S4096 32 0
  fn_part1 (F := F) main_arg0 main_arg2 main_arg3 main_arg4 main_arg5 main_v6 main_v22 main_v23
-- ==== Pre_finite_coords.lean ====
abbrev S4096x256 : Shape := ⟨2, ![4096, 256]⟩
abbrev S4096x2 : Shape := ⟨2, ![4096, 2]⟩
abbrev S3x256x256 : Shape := ⟨3, ![3, 256, 256]⟩
abbrev S_ : Shape := ⟨0, ![]⟩

class Facts : Prop where
  bcast_S_S4096x2 : S_.BroadcastsInDim S4096x2 (![] : Fin 0 → Fin S4096x2.rank)

variable [Facts]

def fn {F : FTy → Type} [FloatOps F] (main_arg0 : FVec F S4096x256 .f32) (main_arg1 : FVec F S4096x2 .f32) (main_arg2 : FVec F S3x256x256 .f32) : IVec S4096x2 1 :=
  let main_v0 : FVec F S4096x2 .f32 := Host.absf main_arg1
  let main_cst : FVec F S_ .f32 := constant S_ .f32 0x7F800000#32
  let main_v1 : FVec F S4096x2 .f32 := broadcastInDim S4096x2 ![] bcast_S_S4096x2 main_cst
  let main_v2 : IVec S4096x2 1 := cmpf .olt main_v0 main_v1
  main_v2
-- ==== Pre_sparse_rows.lean ====
abbrev S4096x256 : Shape := ⟨2, ![4096, 256]⟩
abbrev S4096x2 : Shape := ⟨2, ![4096, 2]⟩
abbrev S3x256x256 : Shape := ⟨3, ![3, 256, 256]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096 : Shape := ⟨1, ![4096]⟩

class Facts : Prop where
  slices_S4096x2_S4096x1_0_0 : S4096x2.Slices ![0, 0] S4096x1
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  slices_S4096x2_S4096x1_0_1 : S4096x2.Slices ![0, 1] S4096x1
  bcast_S_S4096x4096 : S_.BroadcastsInDim S4096x4096 (![] : Fin 0 → Fin S4096x4096.rank)
  natLt_1_32 : 1 < 32
  reducesTo_S4096x4096_S4096_d1 : S4096x4096.ReducesTo [1] S4096
  h_S_ : 0 < S_.numel
  bcast_S_S4096 : S_.BroadcastsInDim S4096 (![] : Fin 0 → Fin S4096.rank)
  bcast_S_S4096x2 : S_.BroadcastsInDim S4096x2 (![] : Fin 0 → Fin S4096x2.rank)
  bcast_S4096_S4096x1_0 : S4096.BroadcastsInDim S4096x1 (![0] : Fin 1 → Fin S4096x1.rank)

variable [Facts]

def fn_part1 {F : FTy → Type} [FloatOps F] (main_arg1 : FVec F S4096x2 .f32) (main_v17 : IVec S4096x4096 1) (main_v20 : FVec F S4096x4096 .f32) (main_v21 : FVec F S4096x4096 .f32) : IVec S4096x4096 1 :=
  let main_v22 : FVec F S4096x4096 .f32 := addf main_v20 main_v21
  let main_v23 : FVec F S4096x4096 .f32 := Host.sqrt main_v22
  let main_cst_1 : FVec F S_ .f32 := constant S_ .f32 0x3C23D70A#32
  let main_v24 : FVec F S4096x4096 .f32 := broadcastInDim S4096x4096 ![] bcast_S_S4096x4096 main_cst_1
  let main_v25 : IVec S4096x4096 1 := cmpf .ole main_v23 main_v24
  let main_v26 : IVec S4096x4096 1 := cmpi .eq main_v17 main_v25
  let main_v27 : IVec S4096x4096 32 := (extui 32 · natLt_1_32) main_v17
  let main_c : IVec S_ 32 := constantI S_ 32 0#32
  let main_v28 : IVec S4096 32 := (fun x v => Host.reduce IntOp.addi x v reducesTo_S4096x4096_S4096_d1 h_S_) main_v27 main_c
  let main_c_2 : IVec S_ 32 := constantI S_ 32 20#32
  let main_v29 : IVec S4096 32 := broadcastInDim S4096 ![] bcast_S_S4096 main_c_2
  let main_v30 : IVec S4096 1 := cmpi .sle main_v28 main_v29
  let main_v31 : FVec F S4096x2 .f32 := Host.absf main_arg1
  let main_cst_3 : FVec F S_ .f32 := constant S_ .f32 0x7F800000#32
  let main_v32 : FVec F S4096x2 .f32 := broadcastInDim S4096x2 ![] bcast_S_S4096x2 main_cst_3
  let main_v33 : IVec S4096x2 1 := cmpf .olt main_v31 main_v32
  let main_v34 : IVec S4096x1 1 := (extractStridedSlice S4096x1 ![0, 0] · slices_S4096x2_S4096x1_0_0) main_v33
  let main_v35 : IVec S4096x1 1 := (extractStridedSlice S4096x1 ![0, 1] · slices_S4096x2_S4096x1_0_1) main_v33
  let main_v36 : IVec S4096x1 1 := andi main_v34 main_v35
  let main_v37 : IVec S4096x1 1 := broadcastInDim S4096x1 ![0] bcast_S4096_S4096x1_0 main_v30
  let main_v38 : IVec S4096x1 1 := andi main_v36 main_v37
  let main_v39 : IVec S4096x4096 1 := broadcastInDim S4096x4096 ![0, 1] bcast_S4096x1_S4096x4096_0_1 main_v38
  let main_v40 : IVec S4096x4096 1 := andi main_v39 main_v26
  main_v40

def fn {F : FTy → Type} [FloatOps F] (main_arg0 : FVec F S4096x256 .f32) (main_arg1 : FVec F S4096x2 .f32) (main_arg2 : FVec F S3x256x256 .f32) : IVec S4096x4096 1 :=
  let main_v0 : FVec F S4096x1 .f32 := (extractStridedSlice S4096x1 ![0, 0] · slices_S4096x2_S4096x1_0_0) main_arg1
  let main_v1 : FVec F S4096x1 .f32 := (extractStridedSlice S4096x1 ![0, 0] · slices_S4096x2_S4096x1_0_0) main_arg1
  let main_v2 : FVec F S1x4096 .f32 := (transpose S1x4096 [1, 0] · transposes_S4096x1_S1x4096_1_0) main_v1
  let main_v3 : FVec F S4096x4096 .f32 := broadcastInDim S4096x4096 ![0, 1] bcast_S4096x1_S4096x4096_0_1 main_v0
  let main_v4 : FVec F S4096x4096 .f32 := broadcastInDim S4096x4096 ![0, 1] bcast_S1x4096_S4096x4096_0_1 main_v2
  let main_v5 : FVec F S4096x4096 .f32 := subf main_v3 main_v4
  let main_v6 : FVec F S4096x1 .f32 := (extractStridedSlice S4096x1 ![0, 1] · slices_S4096x2_S4096x1_0_1) main_arg1
  let main_v7 : FVec F S4096x1 .f32 := (extractStridedSlice S4096x1 ![0, 1] · slices_S4096x2_S4096x1_0_1) main_arg1
  let main_v8 : FVec F S1x4096 .f32 := (transpose S1x4096 [1, 0] · transposes_S4096x1_S1x4096_1_0) main_v7
  let main_v9 : FVec F S4096x4096 .f32 := broadcastInDim S4096x4096 ![0, 1] bcast_S4096x1_S4096x4096_0_1 main_v6
  let main_v10 : FVec F S4096x4096 .f32 := broadcastInDim S4096x4096 ![0, 1] bcast_S1x4096_S4096x4096_0_1 main_v8
  let main_v11 : FVec F S4096x4096 .f32 := subf main_v9 main_v10
  let main_v12 : FVec F S4096x4096 .f32 := mulf main_v5 main_v5
  let main_v13 : FVec F S4096x4096 .f32 := mulf main_v11 main_v11
  let main_v14 : FVec F S4096x4096 .f32 := addf main_v12 main_v13
  let main_v15 : FVec F S4096x4096 .f32 := Host.sqrt main_v14
  let main_cst : FVec F S_ .f32 := constant S_ .f32 0x3C23D70A#32
  let main_v16 : FVec F S4096x4096 .f32 := broadcastInDim S4096x4096 ![] bcast_S_S4096x4096 main_cst
  let main_v17 : IVec S4096x4096 1 := cmpf .ole main_v15 main_v16
  let main_v18 : FVec F S4096x4096 .f32 := mulf main_v5 main_v5
  let main_v19 : FVec F S4096x4096 .f32 := mulf main_v11 main_v11
  let main_v20 : FVec F S4096x4096 .f32 := addf main_v18 main_v19
  let main_cst_0 : FVec F S_ .f32 := constant S_ .f32 0x0554AD2E#32
  let main_v21 : FVec F S4096x4096 .f32 := broadcastInDim S4096x4096 ![] bcast_S_S4096x4096 main_cst_0
  fn_part1 (F := F) main_arg1 main_v17 main_v20 main_v21
-- ==== Kernel.lean ====
abbrev S4096x256 : Shape := ⟨2, ![4096, 256]⟩
abbrev S4096x2 : Shape := ⟨2, ![4096, 2]⟩
abbrev S3x256x256 : Shape := ⟨3, ![3, 256, 256]⟩
abbrev S2x4096 : Shape := ⟨2, ![2, 4096]⟩
abbrev S4096x4096 : Shape := ⟨2, ![4096, 4096]⟩
abbrev S512x2 : Shape := ⟨2, ![512, 2]⟩
abbrev S512x256 : Shape := ⟨2, ![512, 256]⟩
abbrev S2048x256 : Shape := ⟨2, ![2048, 256]⟩
abbrev S512x2048 : Shape := ⟨2, ![512, 2048]⟩
abbrev S3x512x256 : Shape := ⟨3, ![3, 512, 256]⟩
abbrev S1x256x256 : Shape := ⟨3, ![1, 256, 256]⟩
abbrev S256x256 : Shape := ⟨2, ![256, 256]⟩
abbrev S1x512x256 : Shape := ⟨3, ![1, 512, 256]⟩
abbrev S512x1 : Shape := ⟨2, ![512, 1]⟩
abbrev S1x2048 : Shape := ⟨2, ![1, 2048]⟩
abbrev S512x512 : Shape := ⟨2, ![512, 512]⟩

abbrev nBuf : Space → Nat
  | .hbm => 7
  | .vmem => 15
  | .smem => 0
  | _ => 0

abbrev bufTy : (tb : Table) → Fin (tcTables nBuf tb) → BufTy
  | .hbm, ⟨0, _⟩ => ⟨S4096x256, .f32⟩
  | .hbm, ⟨1, _⟩ => ⟨S4096x2, .f32⟩
  | .hbm, ⟨2, _⟩ => ⟨S3x256x256, .f32⟩
  | .hbm, ⟨3, _⟩ => ⟨S2x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .local _ .vmem, ⟨0, _⟩ => ⟨S512x2, .f32⟩
  | .local _ .vmem, ⟨1, _⟩ => ⟨S512x2, .f32⟩
  | .local _ .vmem, ⟨2, _⟩ => ⟨S2x4096, .f32⟩
  | .local _ .vmem, ⟨3, _⟩ => ⟨S512x256, .f32⟩
  | .local _ .vmem, ⟨4, _⟩ => ⟨S512x256, .f32⟩
  | .local _ .vmem, ⟨5, _⟩ => ⟨S2048x256, .f32⟩
  | .local _ .vmem, ⟨6, _⟩ => ⟨S2048x256, .f32⟩
  | .local _ .vmem, ⟨7, _⟩ => ⟨S3x256x256, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S3x512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let c0_2 : Index := 0#32
  let arg1 : BitVec 32 := BitVec.ofNat 32 (i 1).val
  let c2048_i32 : BitVec 32 := 2048#32
  let v4 : BitVec 32 := Scalar.muli arg1 c2048_i32
  let v5 : Index := Scalar.indexCast v4
  ![0, v5.toNat]
def k0_off2 (i : grid0.Coords) : Fin 2 → Nat :=
  let c1_5 : Index := 1#32
  let arg1 : BitVec 32 := BitVec.ofNat 32 (i 1).val
  let c2048_i32_4 : BitVec 32 := 2048#32
  let v12 : BitVec 32 := Scalar.muli arg1 c2048_i32_4
  let v13 : Index := Scalar.indexCast v12
  ![1, v13.toNat]
def k0_cond2 (i : grid0.Coords) : BitVec 1 :=
  let arg0 : BitVec 32 := BitVec.ofNat 32 (i 0).val
  let c512_i32 : BitVec 32 := 512#32
  let v76 : BitVec 32 := Scalar.muli arg0 c512_i32
  let c0_i32_40 : BitVec 32 := 0#32
  let v78 : BitVec 1 := Scalar.cmpi .sgt v76 c0_i32_40
  let v79 : BitVec 32 := Scalar.extui v78
  let c0_i32_41 : BitVec 32 := 0#32
  let v80 : BitVec 1 := Scalar.cmpi .slt v76 c0_i32_41
  let v81 : BitVec 32 := Scalar.extui v80
  let v82 : BitVec 32 := Scalar.subi v79 v81
  let c2048_i32_39 : BitVec 32 := 2048#32
  let c0_i32_42 : BitVec 32 := 0#32
  let v83 : BitVec 1 := Scalar.cmpi .sgt c2048_i32_39 c0_i32_42
  let v84 : BitVec 32 := Scalar.extui v83
  let c0_i32_43 : BitVec 32 := 0#32
  let v85 : BitVec 1 := Scalar.cmpi .slt c2048_i32_39 c0_i32_43
  let v86 : BitVec 32 := Scalar.extui v85
  let v87 : BitVec 32 := Scalar.subi v84 v86
  let v88 : BitVec 1 := Scalar.cmpi .ne v82 v87
  let v89 : BitVec 32 := Scalar.remsi v76 c2048_i32_39
  let c0_i32_44 : BitVec 32 := 0#32
  let v90 : BitVec 1 := Scalar.cmpi .ne v89 c0_i32_44
  let v91 : BitVec 1 := Scalar.andi v88 v90
  let v77 : BitVec 32 := Scalar.divsi v76 c2048_i32_39
  let c1_i32 : BitVec 32 := 1#32
  let v92 : BitVec 32 := Scalar.subi v77 c1_i32
  let v93 : BitVec 32 := Scalar.select v91 v92 v77
  let arg1 : BitVec 32 := BitVec.ofNat 32 (i 1).val
  let v94 : BitVec 1 := Scalar.cmpi .eq v93 arg1
  let v95 : BitVec 32 := Scalar.extui v94
  let c0_i32_45 : BitVec 32 := 0#32
  let v96 : BitVec 1 := Scalar.cmpi .ne v95 c0_i32_45
  v96

def k0_off3 (i : grid0.Coords) : Fin 2 → Nat :=
  let c0_53 : Index := 0#32
  let arg0 : BitVec 32 := BitVec.ofNat 32 (i 0).val
  let c512_i32_46 : BitVec 32 := 512#32
  let v97 : BitVec 32 := Scalar.muli arg0 c512_i32_46
  let c2048_i32_47 : BitVec 32 := 2048#32
  let c0_i32_48 : BitVec 32 := 0#32
  let v98 : BitVec 1 := Scalar.cmpi .eq c2048_i32_47 c0_i32_48
  let c1_i32_49 : BitVec 32 := 1#32
  let v99 : BitVec 32 := Scalar.select v98 c1_i32_49 c2048_i32_47
  let v100 : BitVec 32 := Scalar.remsi v97 v99
  let c0_i32_51 : BitVec 32 := 0#32
  let v102 : BitVec 1 := Scalar.cmpi .slt v100 c0_i32_51
  let c0_i32_52 : BitVec 32 := 0#32
  let v103 : BitVec 1 := Scalar.cmpi .slt v99 c0_i32_52
  let v104 : BitVec 1 := Scalar.xori v102 v103
  let c0_i32_50 : BitVec 32 := 0#32
  let v101 : BitVec 1 := Scalar.cmpi .ne v100 c0_i32_50
  let v105 : BitVec 1 := Scalar.andi v104 v101
  let v106 : BitVec 32 := Scalar.addi v100 v99
  let v107 : BitVec 32 := Scalar.select v105 v106 v100
  let v111 : Index := Scalar.indexCast v107
  ![0, v111.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S3x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "decay0" => some ((-(((Real.log 2) * (3 / 1000))⁻¹) : ℝ) : EReal)
  | "decay1" => some ((-(((Real.log 2) * (1 / 1000))⁻¹) : ℝ) : EReal)
  | "decay2" => some ((-(((Real.log 2) * (1 / 500))⁻¹) : ℝ) : EReal)
  | "far" => some ⊤
  | "ln2" => some ((Real.log 2 : ℝ) : EReal)
  | _ => none
-- ==== FittedIdeal.lean ====
abbrev S4096x256 : Shape := ⟨2, ![4096, 256]⟩
abbrev S4096x2 : Shape := ⟨2, ![4096, 2]⟩
abbrev S3x256x256 : Shape := ⟨3, ![3, 256, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x256x256 : Shape := ⟨3, ![1, 256, 256]⟩
abbrev S256x256 : Shape := ⟨2, ![256, 256]⟩
abbrev S256x4096 : Shape := ⟨2, ![256, 4096]⟩

abbrev nBuf : Space → Nat
  | .hbm => 149
  | .vmem => 0
  | .smem => 0
  | _ => 0

abbrev hbmTy0_0 (i : Nat) : BufTy := match i % 128 with
  | 0 => ⟨S4096x256, .f32⟩
  | 1 => ⟨S4096x2, .f32⟩
  | 2 => ⟨S3x256x256, .f32⟩
  | 3 => ⟨S4096, .i32⟩
  | 4 => ⟨S4096x1, .i32⟩
  | 5 => ⟨S4096, .i32⟩
  | 6 => ⟨S1x4096, .i32⟩
  | 7 => ⟨S4096x4096, .i32⟩
  | 8 => ⟨S4096x4096, .i32⟩
  | 9 => ⟨S4096x4096, .i1⟩
  | 10 => ⟨S4096x1, .f32⟩
  | 11 => ⟨S4096x1, .f32⟩
  | 12 => ⟨S1x4096, .f32⟩
  | 13 => ⟨S4096x4096, .f32⟩
  | 14 => ⟨S4096x4096, .f32⟩
  | 15 => ⟨S4096x4096, .f32⟩
  | 16 => ⟨S4096x1, .f32⟩
  | 17 => ⟨S4096x1, .f32⟩
  | 18 => ⟨S1x4096, .f32⟩
  | 19 => ⟨S4096x4096, .f32⟩
  | 20 => ⟨S4096x4096, .f32⟩
  | 21 => ⟨S4096x4096, .f32⟩
  | 22 => ⟨S4096x4096, .f32⟩
  | 23 => ⟨S4096x4096, .f32⟩
  | 24 => ⟨S4096x4096, .f32⟩
  | 25 => ⟨S_, .f32⟩
  | 26 => ⟨S4096x4096, .f32⟩
  | 27 => ⟨S4096x4096, .f32⟩
  | 28 => ⟨S4096x4096, .f32⟩
  | 29 => ⟨S1x256x256, .f32⟩
  | 30 => ⟨S256x256, .f32⟩
  | 31 => ⟨S4096x256, .f32⟩
  | 32 => ⟨S256x4096, .f32⟩
  | 33 => ⟨S4096x4096, .f32⟩
  | 34 => ⟨S_, .f32⟩
  | 35 => ⟨S4096x4096, .f32⟩
  | 36 => ⟨S4096x4096, .f32⟩
  | 37 => ⟨S_, .f32⟩
  | 38 => ⟨S4096x4096, .f32⟩
  | 39 => ⟨S4096x4096, .f32⟩
  | 40 => ⟨S_, .f32⟩
  | 41 => ⟨S4096x4096, .f32⟩
  | 42 => ⟨S4096x4096, .f32⟩
  | 43 => ⟨S4096x4096, .f32⟩
  | 44 => ⟨S_, .f32⟩
  | 45 => ⟨S4096x4096, .f32⟩
  | 46 => ⟨S4096x4096, .f32⟩
  | 47 => ⟨S_, .f32⟩
  | 48 => ⟨S4096x4096, .f32⟩
  | 49 => ⟨S4096x4096, .f32⟩
  | 50 => ⟨S_, .f32⟩
  | 51 => ⟨S4096x4096, .f32⟩
  | 52 => ⟨S4096x4096, .i1⟩
  | 53 => ⟨S4096x4096, .f32⟩
  | 54 => ⟨S_, .f32⟩
  | 55 => ⟨S4096x4096, .f32⟩
  | 56 => ⟨S4096x4096, .f32⟩
  | 57 => ⟨S4096x4096, .f32⟩
  | 58 => ⟨S_, .f32⟩
  | 59 => ⟨S4096x4096, .f32⟩
  | 60 => ⟨S4096x4096, .f32⟩
  | 61 => ⟨S4096x4096, .f32⟩
  | 62 => ⟨S4096x4096, .f32⟩
  | 63 => ⟨S_, .f32⟩
  | 64 => ⟨S_, .f32⟩
  | 65 => ⟨S4096x4096, .f32⟩
  | 66 => ⟨S_, .f32⟩
  | 67 => ⟨S4096x4096, .f32⟩
  | 68 => ⟨S4096x4096, .f32⟩
  | 69 => ⟨S1x256x256, .f32⟩
  | 70 => ⟨S256x256, .f32⟩
  | 71 => ⟨S4096x256, .f32⟩
  | 72 => ⟨S256x4096, .f32⟩
  | 73 => ⟨S4096x4096, .f32⟩
  | 74 => ⟨S_, .f32⟩
  | 75 => ⟨S4096x4096, .f32⟩
  | 76 => ⟨S4096x4096, .f32⟩
  | 77 => ⟨S_, .f32⟩
  | 78 => ⟨S4096x4096, .f32⟩
  | 79 => ⟨S4096x4096, .f32⟩
  | 80 => ⟨S_, .f32⟩
  | 81 => ⟨S4096x4096, .f32⟩
  | 82 => ⟨S4096x4096, .f32⟩
  | 83 => ⟨S4096x4096, .f32⟩
  | 84 => ⟨S_, .f32⟩
  | 85 => ⟨S4096x4096, .f32⟩
  | 86 => ⟨S4096x4096, .f32⟩
  | 87 => ⟨S_, .f32⟩
  | 88 => ⟨S4096x4096, .f32⟩
  | 89 => ⟨S4096x4096, .f32⟩
  | 90 => ⟨S_, .f32⟩
  | 91 => ⟨S4096x4096, .f32⟩
  | 92 => ⟨S4096x4096, .i1⟩
  | 93 => ⟨S4096x4096, .f32⟩
  | 94 => ⟨S_, .f32⟩
  | 95 => ⟨S4096x4096, .f32⟩
  | 96 => ⟨S4096x4096, .f32⟩
  | 97 => ⟨S4096x4096, .f32⟩
  | 98 => ⟨S_, .f32⟩
  | 99 => ⟨S4096x4096, .f32⟩
  | 100 => ⟨S4096x4096, .f32⟩
  | 101 => ⟨S4096x4096, .f32⟩
  | 102 => ⟨S4096x4096, .f32⟩
  | 103 => ⟨S_, .f32⟩
  | 104 => ⟨S_, .f32⟩
  | 105 => ⟨S4096x4096, .f32⟩
  | 106 => ⟨S_, .f32⟩
  | 107 => ⟨S4096x4096, .f32⟩
  | 108 => ⟨S4096x4096, .f32⟩
  | 109 => ⟨S1x256x256, .f32⟩
  | 110 => ⟨S256x256, .f32⟩
  | 111 => ⟨S4096x256, .f32⟩
  | 112 => ⟨S256x4096, .f32⟩
  | 113 => ⟨S4096x4096, .f32⟩
  | 114 => ⟨S_, .f32⟩
  | 115 => ⟨S4096x4096, .f32⟩
  | 116 => ⟨S4096x4096, .f32⟩
  | 117 => ⟨S_, .f32⟩
  | 118 => ⟨S4096x4096, .f32⟩
  | 119 => ⟨S4096x4096, .f32⟩
  | 120 => ⟨S_, .f32⟩
  | 121 => ⟨S4096x4096, .f32⟩
  | 122 => ⟨S4096x4096, .f32⟩
  | 123 => ⟨S4096x4096, .f32⟩
  | 124 => ⟨S_, .f32⟩
  | 125 => ⟨S4096x4096, .f32⟩
  | 126 => ⟨S4096x4096, .f32⟩
  | 127 => ⟨S_, .f32⟩
  | _ => ⟨S4096x256, .f32⟩

abbrev hbmTy0_1 (i : Nat) : BufTy := match i % 128 with
  | 0 => ⟨S4096x4096, .f32⟩
  | 1 => ⟨S4096x4096, .f32⟩
  | 2 => ⟨S_, .f32⟩
  | 3 => ⟨S4096x4096, .f32⟩
  | 4 => ⟨S4096x4096, .i1⟩
  | 5 => ⟨S4096x4096, .f32⟩
  | 6 => ⟨S_, .f32⟩
  | 7 => ⟨S4096x4096, .f32⟩
  | 8 => ⟨S4096x4096, .f32⟩
  | 9 => ⟨S4096x4096, .f32⟩
  | 10 => ⟨S_, .f32⟩
  | 11 => ⟨S4096x4096, .f32⟩
  | 12 => ⟨S4096x4096, .f32⟩
  | 13 => ⟨S4096x4096, .f32⟩
  | 14 => ⟨S4096x4096, .f32⟩
  | 15 => ⟨S_, .f32⟩
  | 16 => ⟨S_, .f32⟩
  | 17 => ⟨S4096x4096, .f32⟩
  | 18 => ⟨S_, .f32⟩
  | 19 => ⟨S4096x4096, .f32⟩
  | 20 => ⟨S4096x4096, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_call0_v0 : Ref sig .tc := ⟨.hbm, 66, rfl⟩
abbrev main_call0_v1 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_cst_13 : Ref sig .tc := ⟨.hbm, 87, rfl⟩
abbrev main_v68 : Ref sig .tc := ⟨.hbm, 88, rfl⟩
abbrev main_v69 : Ref sig .tc := ⟨.hbm, 89, rfl⟩
abbrev main_cst_14 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_15 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_16 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_17 : Ref sig .tc := ⟨.hbm, 103, rfl⟩
abbrev main_v80 : Ref sig .tc := ⟨.hbm, 104, rfl⟩
abbrev main_v81 : Ref sig .tc := ⟨.hbm, 105, rfl⟩
abbrev main_call1_v0 : Ref sig .tc := ⟨.hbm, 106, rfl⟩
abbrev main_call1_v1 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_18 : Ref sig .tc := ⟨.hbm, 114, rfl⟩
abbrev main_v88 : Ref sig .tc := ⟨.hbm, 115, rfl⟩
abbrev main_v89 : Ref sig .tc := ⟨.hbm, 116, rfl⟩
abbrev main_cst_19 : Ref sig .tc := ⟨.hbm, 117, rfl⟩
abbrev main_v90 : Ref sig .tc := ⟨.hbm, 118, rfl⟩
abbrev main_v91 : Ref sig .tc := ⟨.hbm, 119, rfl⟩
abbrev main_cst_20 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_21 : Ref sig .tc := ⟨.hbm, 124, rfl⟩
abbrev main_v95 : Ref sig .tc := ⟨.hbm, 125, rfl⟩
abbrev main_v96 : Ref sig .tc := ⟨.hbm, 126, rfl⟩
abbrev main_cst_22 : Ref sig .tc := ⟨.hbm, 127, rfl⟩
abbrev main_v97 : Ref sig .tc := ⟨.hbm, 128, rfl⟩
abbrev main_v98 : Ref sig .tc := ⟨.hbm, 129, rfl⟩
abbrev main_cst_23 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_24 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_25 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_26 : Ref sig .tc := ⟨.hbm, 143, rfl⟩
abbrev main_v109 : Ref sig .tc := ⟨.hbm, 144, rfl⟩
abbrev main_v110 : Ref sig .tc := ⟨.hbm, 145, rfl⟩
abbrev main_call2_v0 : Ref sig .tc := ⟨.hbm, 146, rfl⟩
abbrev main_call2_v1 : Ref sig .tc := ⟨.hbm, 147, rfl⟩
abbrev main_v111 : Ref sig .tc := ⟨.hbm, 148, rfl⟩

abbrev nD : Nat := 1
abbrev τ : Topo := Topo.v7x

variable {F : FTy → Type} [FloatOps F]
-- ==== Proof.KI.Runs.lean ====
/- What the runs of the body share: the two branch conditions in closed form, the staging memrefs, the invariant. -/
module

public import proofs.«01_k».proof.Proof.Gen.KernelIdeal.Frame
public import proofs.«01_k».proof.Proof.Gen.KernelIdeal.Skeleton
public import Idealize.ShloMosaic.Lib.Exec

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's the first branch (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 2) — by arithmetic of the point. -/
theorem hcond0_0 : ∀ t : Fin cfg0.N, cond0_0 (grid0.coords t) ↔ t.val % 2 = 0 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 2 = 0)

/-- The condition of the body's the second branch (`k0_h2`), from the grid coordinates (the skeleton's scalar
    chain substituted). -/
abbrev cond0_1 (i : grid0.Coords) : Prop := k0_cond2 i = 1#1
/-- It holds at the points whose coordinates have 4·i1 ≤ i0 and i0 ≤ 4·i1 + 3 — decided over the grid. -/
theorem hcond0_1 : ∀ t : Fin cfg0.N, cond0_1 (grid0.coords t) ↔ (4 * (t.val % 2) ≤ t.val / 2 % 8 ∧ t.val / 2 % 8 ≤ 4 * (t.val % 2) + 3) :=
  (by decide +kernel : ∀ t : Fin grid0.N, cond0_1 (grid0.coords t) ↔ (4 * (t.val % 2) ≤ t.val / 2 % 8 ∧ t.val / 2 % 8 ≤ 4 * (t.val % 2) + 3))

/-- The diagonal block's offsets in closed form: row 0, column 512 times the row block's number modulo 4. -/
theorem k0_off3_eq : ∀ i : grid0.Coords, k0_off3 i = ![0, 512 * ((i 0).val % 4)] := by decide +kernel
instance closedOff_k0_off3 (i : grid0.Coords) : ClosedOff (k0_off3 i) := ⟨![0, 512 * ((i 0).val % 4)], k0_off3_eq i⟩

/-! ## The kernel body on any staging memrefs: a subtype the run finds -/

/-- One staging buffer of output window 5, through which its contents are stated (`View.read_writes_of_cover`: the
    choice does not matter). -/
abbrev VO0_5 : View sig .tc .vmem S512x2048 .f32 := (Memref.whole cc0_stg5_0 : Memref sig .tc .vmem S512x2048 .f32).view
/-- One staging buffer of output window 6, through which its contents are stated (`View.read_writes_of_cover`: the
    choice does not matter). -/
abbrev VO0_6 : View sig .tc .vmem S512x2048 .f32 := (Memref.whole cc0_stg6_0 : Memref sig .tc .vmem S512x2048 .f32).view
/-- One staging buffer of output window 7, through which its contents are stated (`View.read_writes_of_cover`: the
    choice does not matter). -/
abbrev VO0_7 : View sig .tc .vmem S512x2048 .f32 := (Memref.whole cc0_stg7_0 : Memref sig .tc .vmem S512x2048 .f32).view
/-- Each window's current staging memref at point `t`, spelled as the pipeline passes it (`bodyAt0`), and its wholeness. -/
abbrev ms0_0 (t : Fin cfg0.N) : Memref sig .tc .vmem S512x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S3x512x256 .f32 := Memref.whole cc0_scratch0
/-- The scratch `arg10` the kernel carries between points, as a view: what it holds is stated through it. -/
abbrev VS0_0 : View sig .tc .vmem S3x512x256 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KI.RunA.lean ====
/- The whole-body run at the points with column block 0 whose row block meets the diagonal. -/
module

public import proofs.«01_k».proof.Proof.KI.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (the first branch taken, the second branch taken: points 0, 2, 4, 6), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each branch decided by the case's hypotheses `hc·`; the pieces are
    the witness that run finds (assigned when `iexact` hands the buffer to the continuation). -/
noncomputable def kernelRun0_A (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : cond0_1 i)
    (x0 : Vec F S512x2 .f32) (x1 : Vec F S2x4096 .f32) (x2 : Vec F S512x256 .f32) (x3 : Vec F S2048x256 .f32) (x4 : Vec F S3x256x256 .f32) :
    Σ' (L5 : List (View.Piece (Elt F) S512x2048 .f32)), Σ' (L6 : List (View.Piece (Elt F) S512x2048 .f32)), Σ' (L7 : List (View.Piece (Elt F) S512x2048 .f32)), { LS0 : List (View.Piece (Elt F) S3x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__fused_body_eq_skeleton]; unfold cc0__fused_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS0

end Cert.KernelIdeal.Gen

end
-- ==== Proof.KI.RunB.lean ====
/- The whole-body run at the points with column block 1 whose row block does not meet the diagonal. -/
module

public import proofs.«01_k».proof.Proof.KI.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (the first branch not taken, the second branch not taken: points 1, 3, 5, 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each branch decided by the case's hypotheses `hc·`; the pieces are
    the witness that run finds (assigned when `iexact` hands the buffer to the continuation). -/
noncomputable def kernelRun0_B (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : ¬cond0_0 i) (hc1 : ¬cond0_1 i)
    (x0 : Vec F S512x2 .f32) (x1 : Vec F S2x4096 .f32) (x2 : Vec F S512x256 .f32) (x3 : Vec F S2048x256 .f32) (x4 : Vec F S3x256x256 .f32) (xs0 : Vec F S3x512x256 .f32) :
    Σ' (L5 : List (View.Piece (Elt F) S512x2048 .f32)), Σ' (L6 : List (View.Piece (Elt F) S512x2048 .f32)), Σ' (L7 : List (View.Piece (Elt F) S512x2048 .f32)), { LS0 : List (View.Piece (Elt F) S3x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10) K } := by
  refine ⟨?_, ?_, ?_, [], fun E K => ?run⟩
  case run =>
    simp only [cc0__fused_body_eq_skeleton]; unfold cc0__fused_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; isplitr; · ipureintro; exact harg10.read_unread _
    iexact HS0

end Cert.KernelIdeal.Gen

end
-- ==== Proof.KI.RunC.lean ====
/- The whole-body run at the points with column block 0 whose row block does not meet the diagonal. -/
module

public import proofs.«01_k».proof.Proof.KI.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (the first branch taken, the second branch not taken: points 8, 10, 12, 14), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each branch decided by the case's hypotheses `hc·`; the pieces are
    the witness that run finds (assigned when `iexact` hands the buffer to the continuation). -/
noncomputable def kernelRun0_C (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : ¬cond0_1 i)
    (x0 : Vec F S512x2 .f32) (x1 : Vec F S2x4096 .f32) (x2 : Vec F S512x256 .f32) (x3 : Vec F S2048x256 .f32) (x4 : Vec F S3x256x256 .f32) :
    Σ' (L5 : List (View.Piece (Elt F) S512x2048 .f32)), Σ' (L6 : List (View.Piece (Elt F) S512x2048 .f32)), Σ' (L7 : List (View.Piece (Elt F) S512x2048 .f32)), { LS0 : List (View.Piece (Elt F) S3x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__fused_body_eq_skeleton]; unfold cc0__fused_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS0

end Cert.KernelIdeal.Gen

end
-- ==== Proof.KI.RunD.lean ====
/- The whole-body run at the points with column block 1 whose row block meets the diagonal. -/
module

public import proofs.«01_k».proof.Proof.KI.RunC

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (the first branch not taken, the second branch taken: points 9, 11, 13, 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each branch decided by the case's hypotheses `hc·`; the pieces are
    the witness that run finds (assigned when `iexact` hands the buffer to the continuation). -/
noncomputable def kernelRun0_D (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : ¬cond0_0 i) (hc1 : cond0_1 i)
    (x0 : Vec F S512x2 .f32) (x1 : Vec F S2x4096 .f32) (x2 : Vec F S512x256 .f32) (x3 : Vec F S2048x256 .f32) (x4 : Vec F S3x256x256 .f32) (xs0 : Vec F S3x512x256 .f32) :
    Σ' (L5 : List (View.Piece (Elt F) S512x2048 .f32)), Σ' (L6 : List (View.Piece (Elt F) S512x2048 .f32)), Σ' (L7 : List (View.Piece (Elt F) S512x2048 .f32)), { LS0 : List (View.Piece (Elt F) S3x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10) K } := by
  refine ⟨?_, ?_, ?_, [], fun E K => ?run⟩
  case run =>
    simp only [cc0__fused_body_eq_skeleton]; unfold cc0__fused_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; isplitr; · ipureintro; exact harg10.read_unread _
    iexact HS0

end Cert.KernelIdeal.Gen

end
-- ==== Proof.KI.Frame.lean ====
/- What the outputs and the carried scratch hold point by point, the proof data, the body obligation, the run and the frame. -/
module

public import proofs.«01_k».proof.Proof.KI.RunD
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's first store covers output 5's block. -/
theorem cover0_A_5 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : cond0_1 i)
    (x0 : Vec F S512x2 .f32) (x1 : Vec F S2x4096 .f32) (x2 : Vec F S512x256 .f32) (x3 : Vec F S2048x256 .f32) (x4 : Vec F S3x256x256 .f32) (y : S512x2048.Idx) :
    ∃ pc ∈ (kernelRun0_A c i arg2 harg2 arg3 harg3 arg4 harg4 arg5 harg5 arg6 harg6 arg7 harg7 arg8 harg8 arg9 harg9 arg10 harg10 hc0 hc1 x0 x1 x2 x3 x4).1, y ∈ pc.1.set :=
  (View.cover_of_tiledL (kernelRun0_A c i arg2 harg2 arg3 harg3 arg4 harg4 arg5 harg5 arg6 harg6 arg7 harg7 arg8 harg8 arg9 harg9 arg10 harg10 hc0 hc1 x0 x1 x2 x3 x4).1.tail S512x2048.size (by sl_kernel_rfl) y).elim fun pc h => ⟨pc, List.mem_of_mem_tail h.1, h.2⟩

/-- What case A leaves in output 5's staging buffer: its pieces read back over junk. -/
def out0_A_5 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : cond0_1 i)
    (x0 : Vec F S512x2 .f32) (x1 : Vec F S2x4096 .f32) (x2 : Vec F S512x256 .f32) (x3 : Vec F S2048x256 .f32) (x4 : Vec F S3x256x256 .f32) : Vec F S512x2048 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)

/-- Case A's first store covers output 6's block. -/
theorem cover0_A_6 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : cond0_1 i)
    (x0 : Vec F S512x2 .f32) (x1 : Vec F S2x4096 .f32) (x2 : Vec F S512x256 .f32) (x3 : Vec F S2048x256 .f32) (x4 : Vec F S3x256x256 .f32) (y : S512x2048.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.1, y ∈ pc.1.set :=
  (View.cover_of_tiledL (kernelRun0_A c i arg2 harg2 arg3 harg3 arg4 harg4 arg5 harg5 arg6 harg6 arg7 harg7 arg8 harg8 arg9 harg9 arg10 harg10 hc0 hc1 x0 x1 x2 x3 x4).2.1.tail S512x2048.size (by sl_kernel_rfl) y).elim fun pc h => ⟨pc, List.mem_of_mem_tail h.1, h.2⟩

/-- What case A leaves in output 6's staging buffer: its pieces read back over junk. -/
def out0_A_6 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : cond0_1 i)
    (x0 : Vec F S512x2 .f32) (x1 : Vec F S2x4096 .f32) (x2 : Vec F S512x256 .f32) (x3 : Vec F S2048x256 .f32) (x4 : Vec F S3x256x256 .f32) : Vec F S512x2048 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4).2.1)

/-- Case A's first store covers output 7's block. -/
theorem cover0_A_7 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : cond0_1 i)
    (x0 : Vec F S512x2 .f32) (x1 : Vec F S2x4096 .f32) (x2 : Vec F S512x256 .f32) (x3 : Vec F S2048x256 .f32) (x4 : Vec F S3x256x256 .f32) (y : S512x2048.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  (View.cover_of_tiledL (kernelRun0_A c i arg2 harg2 arg3 harg3 arg4 harg4 arg5 harg5 arg6 harg6 arg7 harg7 arg8 harg8 arg9 harg9 arg10 harg10 hc0 hc1 x0 x1 x2 x3 x4).2.2.1.tail S512x2048.size (by sl_kernel_rfl) y).elim fun pc h => ⟨pc, List.mem_of_mem_tail h.1, h.2⟩

/-- What case A leaves in output 7's staging buffer: its pieces read back over junk. -/
def out0_A_7 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : cond0_1 i)
    (x0 : Vec F S512x2 .f32) (x1 : Vec F S2x4096 .f32) (x2 : Vec F S512x256 .f32) (x3 : Vec F S2048x256 .f32) (x4 : Vec F S3x256x256 .f32) : Vec F S512x2048 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4).2.2.1)

/-- Case A's pieces for scratch `arg10`, which the kernel carries between points, cover it: 3 pieces of `S1x512x256` tiling it (Lib/Ring.lean `Piece.tiledL`). -/
theorem scover0_A_0 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : cond0_1 i)
    (x0 : Vec F S512x2 .f32) (x1 : Vec F S2x4096 .f32) (x2 : Vec F S512x256 .f32) (x3 : Vec F S2048x256 .f32) (x4 : Vec F S3x256x256 .f32) (y : S3x512x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.2.1 S1x512x256.size (by sl_kernel_rfl) y

/-- What case A leaves in scratch `arg10`: its pieces read back over junk. -/
def sout0_A_0 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : cond0_1 i)
    (x0 : Vec F S512x2 .f32) (x1 : Vec F S2x4096 .f32) (x2 : Vec F S512x256 .f32) (x3 : Vec F S2048x256 .f32) (x4 : Vec F S3x256x256 .f32) : Vec F S3x512x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4).2.2.2.1)

/-- Case B's pieces for output 5 tile its block (1 store of `S512x2048`, checked by the kernel's evaluation: Lib/Ring.lean `Piece.tiledL`, linear in the pieces, through a loop's `@[irreducible]` trip theorem too), so they cover it. -/
theorem cover0_B_5 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : ¬cond0_0 i) (hc1 : ¬cond0_1 i)
    (x0 : Vec F S512x2 .f32) (x1 : Vec F S2x4096 .f32) (x2 : Vec F S512x256 .f32) (x3 : Vec F S2048x256 .f32) (x4 : Vec F S3x256x256 .f32) (xs0 : Vec F S3x512x256 .f32) (y : S512x2048.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0).1 S512x2048.size (by sl_kernel_rfl) y

/-- What case B leaves in output 5's staging buffer: its pieces read back over junk. -/
def out0_B_5 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : ¬cond0_0 i) (hc1 : ¬cond0_1 i)
    (x0 : Vec F S512x2 .f32) (x1 : Vec F S2x4096 .f32) (x2 : Vec F S512x256 .f32) (x3 : Vec F S2048x256 .f32) (x4 : Vec F S3x256x256 .f32) (xs0 : Vec F S3x512x256 .f32) : Vec F S512x2048 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 x4 xs0).1)

/-- Case B's pieces for output 6 tile its block (1 store of `S512x2048`, checked by the kernel's evaluation: Lib/Ring.lean `Piece.tiledL`, linear in the pieces, through a loop's `@[irreducible]` trip theorem too), so they cover it. -/
theorem cover0_B_6 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : ¬cond0_0 i) (hc1 : ¬cond0_1 i)
    (x0 : Vec F S512x2 .f32) (x1 : Vec F S2x4096 .f32) (x2 : Vec F S512x256 .f32) (x3 : Vec F S2048x256 .f32) (x4 : Vec F S3x256x256 .f32) (xs0 : Vec F S3x512x256 .f32) (y : S512x2048.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0).2.1 S512x2048.size (by sl_kernel_rfl) y

/-- What case B leaves in output 6's staging buffer: its pieces read back over junk. -/
def out0_B_6 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : ¬cond0_0 i) (hc1 : ¬cond0_1 i)
    (x0 : Vec F S512x2 .f32) (x1 : Vec F S2x4096 .f32) (x2 : Vec F S512x256 .f32) (x3 : Vec F S2048x256 .f32) (x4 : Vec F S3x256x256 .f32) (xs0 : Vec F S3x512x256 .f32) : Vec F S512x2048 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 xs0).2.1)

/-- Case B's pieces for output 7 tile its block (1 store of `S512x2048`, checked by the kernel's evaluation: Lib/Ring.lean `Piece.tiledL`, linear in the pieces, through a loop's `@[irreducible]` trip theorem too), so they cover it. -/
theorem cover0_B_7 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : ¬cond0_0 i) (hc1 : ¬cond0_1 i)
    (x0 : Vec F S512x2 .f32) (x1 : Vec F S2x4096 .f32) (x2 : Vec F S512x256 .f32) (x3 : Vec F S2048x256 .f32) (x4 : Vec F S3x256x256 .f32) (xs0 : Vec F S3x512x256 .f32) (y : S512x2048.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0).2.2.1 S512x2048.size (by sl_kernel_rfl) y

/-- What case B leaves in output 7's staging buffer: its pieces read back over junk. -/
def out0_B_7 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : ¬cond0_0 i) (hc1 : ¬cond0_1 i)
    (x0 : Vec F S512x2 .f32) (x1 : Vec F S2x4096 .f32) (x2 : Vec F S512x256 .f32) (x3 : Vec F S2048x256 .f32) (x4 : Vec F S3x256x256 .f32) (xs0 : Vec F S3x512x256 .f32) : Vec F S512x2048 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 xs0).2.2.1)

/-- Case B stores nothing into scratch `arg10`: it holds what the point before left. -/
def sout0_B_0 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : ¬cond0_0 i) (hc1 : ¬cond0_1 i)
    (x0 : Vec F S512x2 .f32) (x1 : Vec F S2x4096 .f32) (x2 : Vec F S512x256 .f32) (x3 : Vec F S2048x256 .f32) (x4 : Vec F S3x256x256 .f32) (xs0 : Vec F S3x512x256 .f32) : Vec F S3x512x256 .f32 := xs0

/-- Case C's pieces for output 5 tile its block (1 store of `S512x2048`, checked by the kernel's evaluation: Lib/Ring.lean `Piece.tiledL`, linear in the pieces, through a loop's `@[irreducible]` trip theorem too), so they cover it. -/
theorem cover0_C_5 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : ¬cond0_1 i)
    (x0 : Vec F S512x2 .f32) (x1 : Vec F S2x4096 .f32) (x2 : Vec F S512x256 .f32) (x3 : Vec F S2048x256 .f32) (x4 : Vec F S3x256x256 .f32) (y : S512x2048.Idx) :
    ∃ pc ∈ (kernelRun0_C c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4).1 S512x2048.size (by sl_kernel_rfl) y

/-- What case C leaves in output 5's staging buffer: its pieces read back over junk. -/
def out0_C_5 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : ¬cond0_1 i)
    (x0 : Vec F S512x2 .f32) (x1 : Vec F S2x4096 .f32) (x2 : Vec F S512x256 .f32) (x3 : Vec F S2048x256 .f32) (x4 : Vec F S3x256x256 .f32) : Vec F S512x2048 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 x4).1)

/-- Case C's pieces for output 6 tile its block (1 store of `S512x2048`, checked by the kernel's evaluation: Lib/Ring.lean `Piece.tiledL`, linear in the pieces, through a loop's `@[irreducible]` trip theorem too), so they cover it. -/
theorem cover0_C_6 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : ¬cond0_1 i)
    (x0 : Vec F S512x2 .f32) (x1 : Vec F S2x4096 .f32) (x2 : Vec F S512x256 .f32) (x3 : Vec F S2048x256 .f32) (x4 : Vec F S3x256x256 .f32) (y : S512x2048.Idx) :
    ∃ pc ∈ (kernelRun0_C c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4).2.1 S512x2048.size (by sl_kernel_rfl) y

/-- What case C leaves in output 6's staging buffer: its pieces read back over junk. -/
def out0_C_6 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : ¬cond0_1 i)
    (x0 : Vec F S512x2 .f32) (x1 : Vec F S2x4096 .f32) (x2 : Vec F S512x256 .f32) (x3 : Vec F S2048x256 .f32) (x4 : Vec F S3x256x256 .f32) : Vec F S512x2048 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4).2.1)

/-- Case C's pieces for output 7 tile its block (1 store of `S512x2048`, checked by the kernel's evaluation: Lib/Ring.lean `Piece.tiledL`, linear in the pieces, through a loop's `@[irreducible]` trip theorem too), so they cover it. -/
theorem cover0_C_7 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : ¬cond0_1 i)
    (x0 : Vec F S512x2 .f32) (x1 : Vec F S2x4096 .f32) (x2 : Vec F S512x256 .f32) (x3 : Vec F S2048x256 .f32) (x4 : Vec F S3x256x256 .f32) (y : S512x2048.Idx) :
    ∃ pc ∈ (kernelRun0_C c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4).2.2.1 S512x2048.size (by sl_kernel_rfl) y

/-- What case C leaves in output 7's staging buffer: its pieces read back over junk. -/
def out0_C_7 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : ¬cond0_1 i)
    (x0 : Vec F S512x2 .f32) (x1 : Vec F S2x4096 .f32) (x2 : Vec F S512x256 .f32) (x3 : Vec F S2048x256 .f32) (x4 : Vec F S3x256x256 .f32) : Vec F S512x2048 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4).2.2.1)

/-- Case C's pieces for scratch `arg10`, which the kernel carries between points, cover it: 3 pieces of `S1x512x256` tiling it (Lib/Ring.lean `Piece.tiledL`). -/
theorem scover0_C_0 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : ¬cond0_1 i)
    (x0 : Vec F S512x2 .f32) (x1 : Vec F S2x4096 .f32) (x2 : Vec F S512x256 .f32) (x3 : Vec F S2048x256 .f32) (x4 : Vec F S3x256x256 .f32) (y : S3x512x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4).2.2.2.1 S1x512x256.size (by sl_kernel_rfl) y

/-- What case C leaves in scratch `arg10`: its pieces read back over junk. -/
def sout0_C_0 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : cond0_0 i) (hc1 : ¬cond0_1 i)
    (x0 : Vec F S512x2 .f32) (x1 : Vec F S2x4096 .f32) (x2 : Vec F S512x256 .f32) (x3 : Vec F S2048x256 .f32) (x4 : Vec F S3x256x256 .f32) : Vec F S3x512x256 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4).2.2.2.1)

/-- Case D's first store covers output 5's block. -/
theorem cover0_D_5 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : ¬cond0_0 i) (hc1 : cond0_1 i)
    (x0 : Vec F S512x2 .f32) (x1 : Vec F S2x4096 .f32) (x2 : Vec F S512x256 .f32) (x3 : Vec F S2048x256 .f32) (x4 : Vec F S3x256x256 .f32) (xs0 : Vec F S3x512x256 .f32) (y : S512x2048.Idx) :
    ∃ pc ∈ (kernelRun0_D c i arg2 harg2 arg3 harg3 arg4 harg4 arg5 harg5 arg6 harg6 arg7 harg7 arg8 harg8 arg9 harg9 arg10 harg10 hc0 hc1 x0 x1 x2 x3 x4 xs0).1, y ∈ pc.1.set :=
  (View.cover_of_tiledL (kernelRun0_D c i arg2 harg2 arg3 harg3 arg4 harg4 arg5 harg5 arg6 harg6 arg7 harg7 arg8 harg8 arg9 harg9 arg10 harg10 hc0 hc1 x0 x1 x2 x3 x4 xs0).1.tail S512x2048.size (by sl_kernel_rfl) y).elim fun pc h => ⟨pc, List.mem_of_mem_tail h.1, h.2⟩

/-- What case D leaves in output 5's staging buffer: its pieces read back over junk. -/
def out0_D_5 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : ¬cond0_0 i) (hc1 : cond0_1 i)
    (x0 : Vec F S512x2 .f32) (x1 : Vec F S2x4096 .f32) (x2 : Vec F S512x256 .f32) (x3 : Vec F S2048x256 .f32) (x4 : Vec F S3x256x256 .f32) (xs0 : Vec F S3x512x256 .f32) : Vec F S512x2048 .f32 :=
  VO0_5.read (Elt F) (VO0_5.writes (Elt F) VO0_5.junk (kernelRun0_D c i arg2 harg2 arg3 harg3 arg4 harg4 arg5 harg5 arg6 harg6 arg7 harg7 arg8 harg8 arg9 harg9 arg10 harg10 hc0 hc1 x0 x1 x2 x3 x4 xs0).1)

/-- Case D's first store covers output 6's block. -/
theorem cover0_D_6 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : ¬cond0_0 i) (hc1 : cond0_1 i)
    (x0 : Vec F S512x2 .f32) (x1 : Vec F S2x4096 .f32) (x2 : Vec F S512x256 .f32) (x3 : Vec F S2048x256 .f32) (x4 : Vec F S3x256x256 .f32) (xs0 : Vec F S3x512x256 .f32) (y : S512x2048.Idx) :
    ∃ pc ∈ (kernelRun0_D c i arg2 harg2 arg3 harg3 arg4 harg4 arg5 harg5 arg6 harg6 arg7 harg7 arg8 harg8 arg9 harg9 arg10 harg10 hc0 hc1 x0 x1 x2 x3 x4 xs0).2.1, y ∈ pc.1.set :=
  (View.cover_of_tiledL (kernelRun0_D c i arg2 harg2 arg3 harg3 arg4 harg4 arg5 harg5 arg6 harg6 arg7 harg7 arg8 harg8 arg9 harg9 arg10 harg10 hc0 hc1 x0 x1 x2 x3 x4 xs0).2.1.tail S512x2048.size (by sl_kernel_rfl) y).elim fun pc h => ⟨pc, List.mem_of_mem_tail h.1, h.2⟩

/-- What case D leaves in output 6's staging buffer: its pieces read back over junk. -/
def out0_D_6 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : ¬cond0_0 i) (hc1 : cond0_1 i)
    (x0 : Vec F S512x2 .f32) (x1 : Vec F S2x4096 .f32) (x2 : Vec F S512x256 .f32) (x3 : Vec F S2048x256 .f32) (x4 : Vec F S3x256x256 .f32) (xs0 : Vec F S3x512x256 .f32) : Vec F S512x2048 .f32 :=
  VO0_6.read (Elt F) (VO0_6.writes (Elt F) VO0_6.junk (kernelRun0_D c i arg2 harg2 arg3 harg3 arg4 harg4 arg5 harg5 arg6 harg6 arg7 harg7 arg8 harg8 arg9 harg9 arg10 harg10 hc0 hc1 x0 x1 x2 x3 x4 xs0).2.1)

/-- Case D's first store covers output 7's block. -/
theorem cover0_D_7 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : ¬cond0_0 i) (hc1 : cond0_1 i)
    (x0 : Vec F S512x2 .f32) (x1 : Vec F S2x4096 .f32) (x2 : Vec F S512x256 .f32) (x3 : Vec F S2048x256 .f32) (x4 : Vec F S3x256x256 .f32) (xs0 : Vec F S3x512x256 .f32) (y : S512x2048.Idx) :
    ∃ pc ∈ (kernelRun0_D c i arg2 harg2 arg3 harg3 arg4 harg4 arg5 harg5 arg6 harg6 arg7 harg7 arg8 harg8 arg9 harg9 arg10 harg10 hc0 hc1 x0 x1 x2 x3 x4 xs0).2.2.1, y ∈ pc.1.set :=
  (View.cover_of_tiledL (kernelRun0_D c i arg2 harg2 arg3 harg3 arg4 harg4 arg5 harg5 arg6 harg6 arg7 harg7 arg8 harg8 arg9 harg9 arg10 harg10 hc0 hc1 x0 x1 x2 x3 x4 xs0).2.2.1.tail S512x2048.size (by sl_kernel_rfl) y).elim fun pc h => ⟨pc, List.mem_of_mem_tail h.1, h.2⟩

/-- What case D leaves in output 7's staging buffer: its pieces read back over junk. -/
def out0_D_7 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : ¬cond0_0 i) (hc1 : cond0_1 i)
    (x0 : Vec F S512x2 .f32) (x1 : Vec F S2x4096 .f32) (x2 : Vec F S512x256 .f32) (x3 : Vec F S2048x256 .f32) (x4 : Vec F S3x256x256 .f32) (xs0 : Vec F S3x512x256 .f32) : Vec F S512x2048 .f32 :=
  VO0_7.read (Elt F) (VO0_7.writes (Elt F) VO0_7.junk (kernelRun0_D c i arg2 harg2 arg3 harg3 arg4 harg4 arg5 harg5 arg6 harg6 arg7 harg7 arg8 harg8 arg9 harg9 arg10 harg10 hc0 hc1 x0 x1 x2 x3 x4 xs0).2.2.1)

/-- Case D stores nothing into scratch `arg10`: it holds what the point before left. -/
def sout0_D_0 (c : Dev nD) (i : grid0.Coords) (arg2 : Memref sig .tc .vmem S512x2 .f32) (harg2 : arg2.IsWhole) (arg3 : Memref sig .tc .vmem S2x4096 .f32) (harg3 : arg3.IsWhole) (arg4 : Memref sig .tc .vmem S512x256 .f32) (harg4 : arg4.IsWhole) (arg5 : Memref sig .tc .vmem S2048x256 .f32) (harg5 : arg5.IsWhole) (arg6 : Memref sig .tc .vmem S3x256x256 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S3x512x256 .f32) (harg10 : arg10.IsWhole) (hc0 : ¬cond0_0 i) (hc1 : cond0_1 i)
    (x0 : Vec F S512x2 .f32) (x1 : Vec F S2x4096 .f32) (x2 : Vec F S512x256 .f32) (x3 : Vec F S2048x256 .f32) (x4 : Vec F S3x256x256 .f32) (xs0 : Vec F S3x512x256 .f32) : Vec F S3x512x256 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x2048 .f32 × Vec F S512x2048 .f32 × Vec F S512x2048 .f32 × Vec F S3x512x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 2 = 0 then
      if h1 : (4 * ((n + 1) % 2) ≤ (n + 1) / 2 % 8 ∧ (n + 1) / 2 % 8 ≤ 4 * ((n + 1) % 2) + 3) then
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (4 * ((n + 1) % 2) ≤ (n + 1) / 2 % 8 ∧ (n + 1) / 2 % 8 ≤ 4 * ((n + 1) % 2) + 3) then
        (out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2, out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2, out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2)

/-- `outsAt0` at a point of case A: that case's contents. -/
theorem outsAt0_A (c : Dev nD) (t : Fin cfg0.N) (h0 : t.val % 2 = 0) (h1 : (4 * (t.val % 2) ≤ t.val / 2 % 8 ∧ t.val / 2 % 8 ≤ 4 * (t.val % 2) + 3)) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (iblk m c 0 t) (iblk m c 1 t) (iblk m c 2 t) (iblk m c 3 t) (iblk m c 4 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 2 = 0) (h1 : ¬(4 * (t.val % 2) ≤ t.val / 2 % 8 ∧ t.val / 2 % 8 ≤ 4 * (t.val % 2) + 3)) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents. -/
theorem outsAt0_C (c : Dev nD) (t : Fin cfg0.N) (h0 : t.val % 2 = 0) (h1 : ¬(4 * (t.val % 2) ≤ t.val / 2 % 8 ∧ t.val / 2 % 8 ≤ 4 * (t.val % 2) + 3)) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t), out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t), out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t), sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact (by exfalso; (try dsimp only at h1); exact by omega)
  | succ n => exact (dif_pos h0).trans ((dif_neg h1).trans rfl)

/-- `outsAt0` at a point of case D: that case's contents, over what the point before left. -/
theorem outsAt0_D (c : Dev nD) (t : Fin cfg0.N) (h0 : ¬t.val % 2 = 0) (h1 : (4 * (t.val % 2) ≤ t.val / 2 % 8 ∧ t.val / 2 % 8 ≤ 4 * (t.val % 2) + 3)) :
    outsAt0 m c t.val t.isLt = (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2, out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2, out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 16 := lt_of_lt_of_eq t.isLt (show cfg0.N = 16 from N_0)
  by_cases h0 : t.val % 2 = 0
  · by_cases h1 : (4 * (t.val % 2) ≤ t.val / 2 % 8 ∧ t.val / 2 % 8 ≤ 4 * (t.val % 2) + 3)
    · by_cases hz : t.val = 0
      · rw [PhiS_castSucc m c t, PhiS_zero m c _ _ hz, PhiA0_eq]
        rw [outsAt0_A m c t h0 h1]
        unfold out0_A_5 out0_A_6 out0_A_7 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) ((hcond0_1 t).mpr h1) (iblk m c 0 t) (iblk m c 1 t) (iblk m c 2 t) (iblk m c 3 t) (iblk m c 4 t)).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        iintro ⟨H0, H1, H2, H3, H4, ⟨%e5, H5⟩, ⟨%e6, H6⟩, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _)
        unfold owns; iexists _; isplitr
        swap; · iexact H7
        ipureintro; exact View.read_writes_of_cover _ _ _ _ _ (cover0_A_7 c _ _ _ _ _ _ _ _ _ _ _ _ _ _ _ _ _ _ _ _ _ _ _ _ _ _)
      · rw [PhiS_castSucc m c t, PhiS_pos m c _ _ hz]
        rw [outsAt0_A m c t h0 h1]
        unfold out0_A_5 out0_A_6 out0_A_7 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) ((hcond0_1 t).mpr h1) (iblk m c 0 t) (iblk m c 1 t) (iblk m c 2 t) (iblk m c 3 t) (iblk m c 4 t)).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexists _; iexact HS0
        iintro ⟨H0, H1, H2, H3, H4, ⟨%e5, H5⟩, ⟨%e6, H6⟩, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _)
        unfold owns; iexists _; isplitr
        swap; · iexact H7
        ipureintro; exact View.read_writes_of_cover _ _ _ _ _ (cover0_A_7 c _ _ _ _ _ _ _ _ _ _ _ _ _ _ _ _ _ _ _ _ _ _ _ _ _ _)
    · by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        unfold out0_C_5 out0_C_6 out0_C_7 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexists _; iexact HS0
        iintro ⟨H0, H1, H2, H3, H4, ⟨%e5, H5⟩, ⟨%e6, H6⟩, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _)
  · by_cases h1 : (4 * (t.val % 2) ≤ t.val / 2 % 8 ∧ t.val / 2 % 8 ≤ 4 * (t.val % 2) + 3)
    · by_cases hz : t.val = 0
      · exfalso; have hN : t.val < 16 := lt_of_lt_of_eq t.isLt (show cfg0.N = 16 from N_0); omega
      · rw [PhiS_castSucc m c t, PhiS_pos m c _ _ hz]
        rw [outsAt0_D m c t h0 h1]
        unfold out0_D_5 out0_D_6 out0_D_7 sout0_D_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_D c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        iintro ⟨H0, H1, H2, H3, H4, ⟨%e5, H5⟩, ⟨%e6, H6⟩, ⟨%e7, H7⟩, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_D_5 c _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_D_6 c _ _ _ _ _ _ _ _ _ _ _ _ _ _ _ _ _ _ _ _ _ _ _ _ _ _ _)
        unfold owns; iexists _; isplitr
        swap; · iexact H7
        ipureintro; exact View.read_writes_of_cover _ _ _ _ _ (cover0_D_7 c _ _ _ _ _ _ _ _ _ _ _ _ _ _ _ _ _ _ _ _ _ _ _ _ _ _ _)
    · by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        unfold out0_B_5 out0_B_6 out0_B_7 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        iintro ⟨H0, H1, H2, H3, H4, ⟨%e5, H5⟩, ⟨%e6, H6⟩, ⟨%e7, H7⟩, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _)
        unfold owns; iexists _; isplitr
        swap; · iexact H7
        ipureintro; exact View.read_writes_of_cover _ _ _ _ _ (cover0_B_7 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame at any values: every run ends, nothing faults, the arguments and the counters end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.KI.Pay.lean ====
/- The kernel's payloads, read element by element at the extended reals. -/
module

public import proofs.«01_k».proof.Proof.Gen.KernelIdeal.Skeleton
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.ShloMosaic.Tactic

variable [Facts]

/-- The factor `0.25 · 1.045` of the kernel, as its rounded constant reads. -/
abbrev q : EReal := Ideal.ofBits .f32 0x3E85C28F#32

/-- The squared distance of two points, with the kernel's `1e-35` under the root. -/
abbrev sq2 (x x' y y' : EReal) : EReal := (x - y) * (x - y) + ((x' - y') * (x' - y') + Ideal.ofBits .f32 0x0554AD2E#32)

/-- The kernel's distance: the number itself within the cut-off, and infinity beyond it. -/
abbrev cut (d : EReal) : EReal := if d * Ideal.rsqrt d ≤ Ideal.ofBits .f32 0x3C23D70A#32 then d * Ideal.rsqrt d else ⊤

/-- The fitted softplus of a product. -/
abbrev fit (s : EReal) : EReal :=
  Ideal.ofBits .f32 0x3F5031EB#32 + Ideal.ofBits .f32 0x3F000000#32 * Ideal.tanh (s + Ideal.ofBits .f32 0xBE7AE148#32)

/-- The exponents' factors. -/
abbrev decay : Fin 3 → EReal
  | 0 => ((-(((Real.log 2) * (3 / 1000))⁻¹) : ℝ) : EReal)
  | 1 => ((-(((Real.log 2) * (1 / 1000))⁻¹) : ℝ) : EReal)
  | 2 => ((-(((Real.log 2) * (1 / 500))⁻¹) : ℝ) : EReal)

theorem named_far : Named.named (F := Ideal) κ "far" (φ := .f32) 0x7149F2CA#32 = (⊤ : EReal) :=
  IdealRules.named_const.ideal_named_scalar _ _ _ _ rfl
theorem named_ln2 : Named.named (F := Ideal) κ "ln2" (φ := .f32) 0x3F317218#32 = ((Real.log 2 : ℝ) : EReal) :=
  IdealRules.named_const.ideal_named_scalar _ _ _ _ rfl
theorem named_decay0 : Named.named (F := Ideal) κ "decay0" (φ := .f32) 0xC3F072FD#32 = decay 0 :=
  IdealRules.named_const.ideal_named_scalar _ _ _ _ rfl
theorem named_decay1 : Named.named (F := Ideal) κ "decay1" (φ := .f32) 0xC4B4563E#32 = decay 1 :=
  IdealRules.named_const.ideal_named_scalar _ _ _ _ rfl
theorem named_decay2 : Named.named (F := Ideal) κ "decay2" (φ := .f32) 0xC434563E#32 = decay 2 :=
  IdealRules.named_const.ideal_named_scalar _ _ _ _ rfl

theorem pay6_at (x : Vec Ideal S512x256 .f32) (w : Vec Ideal S1x256x256 .f32) (z : Fin 1) (a : Fin 512) (d : Fin 256) :
    k0_pay6 (F := Ideal) x w (ix3 z a d) = (∑ e : Fin 256, x (ix2 a e) * w (ix3 0 e d)) * q := by
  pointwise [k0_pay6]

theorem pay7_at (x : Vec Ideal S512x256 .f32) (w : Vec Ideal S1x256x256 .f32) (z : Fin 1) (a : Fin 512) (d : Fin 256) :
    k0_pay7 (F := Ideal) x w (ix3 z a d) = (∑ e : Fin 256, x (ix2 a e) * w (ix3 0 e d)) * q := by
  pointwise [k0_pay7]

theorem pay8_at (x : Vec Ideal S512x256 .f32) (w : Vec Ideal S1x256x256 .f32) (z : Fin 1) (a : Fin 512) (d : Fin 256) :
    k0_pay8 (F := Ideal) x w (ix3 z a d) = (∑ e : Fin 256, x (ix2 a e) * w (ix3 0 e d)) * q := by
  pointwise [k0_pay8]

theorem pay9_at (x : Vec Ideal S512x1 .f32) (y : Vec Ideal S1x2048 .f32) (x' : Vec Ideal S512x1 .f32) (y' : Vec Ideal S1x2048 .f32)
    (a : Fin 512) (b : Fin 2048) :
    k0_pay9 (F := Ideal) x y x' y' (ix2 a b) = cut (sq2 (x (ix2 a 0)) (x' (ix2 a 0)) (y (ix2 0 b)) (y' (ix2 0 b))) := by
  pointwise [k0_pay9]
  rw [named_far]

/-- The pairing of row `a` of the left block with row `b` of the right one. -/
abbrev pair (g : Vec Ideal S1x512x256 .f32) (h : Vec Ideal S2048x256 .f32) (a : Fin 512) (b : Fin 2048) : EReal :=
  ∑ d : Fin 256, g (ix3 0 a d) * h (ix2 b d)

theorem raw5_at (v : FVec Ideal S512x2048 .f32) (h : Vec Ideal S2048x256 .f32) (g : Vec Ideal S1x512x256 .f32) (a : Fin 512) (b : Fin 2048) :
    k0_pay11 (F := Ideal) v (k0_pay10 h g) (ix2 a b) = Ideal.exp2 (v (ix2 a b) * decay 0) * fit (pair g h a b) := by
  pointwise [k0_pay11, k0_pay10]
  rw [named_decay0]
  rfl

theorem raw6_at (v : FVec Ideal S512x2048 .f32) (h : Vec Ideal S2048x256 .f32) (g : Vec Ideal S1x512x256 .f32) (a : Fin 512) (b : Fin 2048) :
    k0_pay12 (F := Ideal) v h g (ix2 a b) = Ideal.exp2 (v (ix2 a b) * decay 1) * fit (pair g h a b) := by
  pointwise [k0_pay12]
  rw [named_decay1]
  rfl

theorem raw7_at (v : FVec Ideal S512x2048 .f32) (h : Vec Ideal S2048x256 .f32) (g : Vec Ideal S1x512x256 .f32) (a : Fin 512) (b : Fin 2048) :
    k0_pay1 (F := Ideal) v (k0_pay13 h g) k0_pay14 (ix2 a b) = Ideal.exp2 (v (ix2 a b) * decay 2) * fit (pair g h a b) := by
  pointwise [k0_pay1, k0_pay13, k0_pay14]
  rw [named_decay2]
  rfl

theorem same_lane (a b : Fin 512) (x y : EReal) :
    (Scalar.select (IntOp.cmpi CmpIPredicate.eq (BitVec.ofNat 32 a.val) (BitVec.ofNat 32 b.val)) x y : EReal) = if a = b then x else y := by
  have ha := a.isLt
  have hb := b.isLt
  by_cases h : a = b
  · subst h; simp [Scalar.select, IntOp.cmpi]
  · have : ¬ BitVec.ofNat 32 a.val = BitVec.ofNat 32 b.val := fun e => h (Fin.ext (by
      have := congrArg BitVec.toNat e
      simp only [BitVec.toNat_ofNat] at this
      omega))
    simp [Scalar.select, IntOp.cmpi, h, beq_eq_false_iff_ne.mpr this]

theorem pay3_at (v : Vec Ideal S512x512 .f32) (a b : Fin 512) :
    k0_pay3 (F := Ideal) v (ix2 a b) = if a = b then ((Real.log 2 : ℝ) : EReal) else v (ix2 a b) := by
  pointwise [k0_pay3, k0_pay2]
  rw [named_ln2]
  exact same_lane a b _ _

theorem pay4_at (v : Vec Ideal S512x512 .f32) (a b : Fin 512) :
    k0_pay4 (F := Ideal) v (ix2 a b) = if a = b then ((Real.log 2 : ℝ) : EReal) else v (ix2 a b) := by
  pointwise [k0_pay4, k0_pay2]
  rw [named_ln2]
  exact same_lane a b _ _

theorem pay5_at (v : Vec Ideal S512x512 .f32) (a b : Fin 512) :
    k0_pay5 (F := Ideal) v (ix2 a b) = if a = b then ((Real.log 2 : ℝ) : EReal) else v (ix2 a b) := by
  pointwise [k0_pay5, k0_pay2]
  rw [named_ln2]
  exact same_lane a b _ _

end Cert.KernelIdeal.Val

end
-- ==== Proof.KI.Scr.lean ====
/- What the carried scratch holds after each point, element by element, at the extended reals. -/
module

public import proofs.«01_k».proof.Proof.KI.Frame
public import Idealize.ShloMosaic.Lib.Pipeline.ValueKit
public import Idealize.ShloMosaic.Lib.Pipeline.ReadBack
public import proofs.«01_k».proof.Proof.KI.Pay

@[expose] public section

set_option maxRecDepth 16384

noncomputable section

namespace Cert.KernelIdeal.Val

open Cert.KernelIdeal Cert.KernelIdeal.Gen Idealize.ShloMosaic Idealize.ShloMosaic.TcCoe Idealize.ShloMosaic.Tactic
open Idealize.ShloMosaic.Pipeline (Dat)

variable (m : (ℓ : Loc nD τ sig) → Buf (Elt Ideal) ℓ)

/-- The scratch after point `t`. -/
abbrev scr (c : Dev nD) (t : Fin cfg0.N) : Vec Ideal S3x512x256 .f32 := (outsAt0 m c t.val t.isLt).2.2.2

/-- The printed block indices of the windows, at a point. -/
theorem idx : ∀ t : Fin cfg0.N, win0_0.index t = ![t.val / 2, 0] ∧ win0_1.index t = ![0, 0] ∧ win0_2.index t = ![t.val / 2, 0]
    ∧ win0_3.index t = ![t.val % 2, 0] ∧ win0_4.index t = ![0, 0, 0] ∧ win0_5.index t = ![t.val / 2, t.val % 2]
    ∧ win0_6.index t = ![t.val / 2, t.val % 2] ∧ win0_7.index t = ![t.val / 2, t.val % 2] :=
  (by decide +kernel : ∀ t : Fin grid0.N, _)

/-- The arguments as launched. -/
abbrev aH (c : Dev nD) : Vec Ideal S4096x256 .f32 := m ((c.tc : Thread nD τ).loc main_arg0)
abbrev aC (c : Dev nD) : Vec Ideal S4096x2 .f32 := m ((c.tc : Thread nD τ).loc main_arg1)
abbrev aW (c : Dev nD) : Vec Ideal S3x256x256 .f32 := m ((c.tc : Thread nD τ).loc main_arg2)

/-- The row of the whole array that row `a` of the block of point `t` is. -/
abbrev row (t : Fin cfg0.N) (a : Fin 512) : Fin 4096 :=
  ⟨512 * (t.val / 2) + a.val, by have := t.isLt; have := a.isLt; have : cfg0.N = 16 := N_0; omega⟩

theorem iblk2_at (c : Dev nD) (t : Fin cfg0.N) (a : Fin 512) (e : Fin 256) :
    (iblk m c 2 t : Vec Ideal S512x256 .f32) (ix2 a e) = aH m c (ix2 (row t a) e) := by
  obtain ⟨e0, e1, e2, e3, e4, -⟩ := idx t
  blk_ext [iblk, V_main_arg0, e2]

theorem iblk4_at (c : Dev nD) (t : Fin cfg0.N) (k : Fin 3) (a : Fin 256) (e : Fin 256) :
    (iblk m c 4 t : Vec Ideal S3x256x256 .f32) (ix3 k a e) = aW m c (ix3 k a e) := by
  obtain ⟨e0, e1, e2, e3, e4, -⟩ := idx t
  blk_ext [iblk, V_main_arg2, e4]

/-- A store of plane `k` read back at plane `k`. -/
theorem canon_plane (k : ℕ) (n : Fin 3) (hn : n.val = k) (inb : ∀ x : Fin 3, (![k, 0, 0] : Fin 3 → ℕ) x + (![1, 512, 256] : Fin 3 → ℕ) x ≤ S3x512x256.size x)
    (w : Vec Ideal S1x512x256 .f32) (L : List (View.Piece (Elt Ideal) S3x512x256 .f32)) (a : Fin 512) (d : Fin 256) :
    (View.canon (⟨Rect.unit (s := S3x512x256) ![k, 0, 0] ![1, 512, 256] inb, w⟩ :: L) : Vec Ideal S3x512x256 .f32) (ix3 n a d) = w (ix3 0 a d) := by
  subst hn
  have e : (Rect.unit (s := S3x512x256) ![n.val, 0, 0] ![1, 512, 256] inb).emb (ix3 0 a d) = ix3 n a d := by blk_ext []
  rw [← e]
  exact View.canon_cons_emb _ _ _ _

/-- A store of another plane is passed over. -/
theorem canon_other (k : ℕ) (n : Fin 3) (hn : n.val ≠ k) (inb : ∀ x : Fin 3, (![k, 0, 0] : Fin 3 → ℕ) x + (![1, 512, 256] : Fin 3 → ℕ) x ≤ S3x512x256.size x)
    (w : Vec Ideal S1x512x256 .f32) (L : List (View.Piece (Elt Ideal) S3x512x256 .f32)) (a : Fin 512) (d : Fin 256) :
    (View.canon (⟨Rect.unit (s := S3x512x256) ![k, 0, 0] ![1, 512, 256] inb, w⟩ :: L) : Vec Ideal S3x512x256 .f32) (ix3 n a d)
      = (View.canon L : Vec Ideal S3x512x256 .f32) (ix3 n a d) := by
  refine View.canon_cons_of_not_mem _ _ ?_
  rw [Rect.mem_set_unit]
  intro hh
  have h0 : k ≤ n.val ∧ n.val < k + 1 := hh 0
  omega

theorem ld_plane (k : ℕ) (n : Fin 3) (hn : n.val = k) (inb : ∀ x : Fin 3, (![k, 0, 0] : Fin 3 → ℕ) x + (![1, 256, 256] : Fin 3 → ℕ) x ≤ S3x256x256.size x) (x : Vec Ideal S3x256x256 .f32) (z : Fin 1) (a d : Fin 256) :
    View.ld x (Rect.unit (s := S3x256x256) ![k, 0, 0] ![1, 256, 256] inb) (ix3 z a d) = x (ix3 n a d) := by
  subst hn
  show x _ = x _
  blk_ext []
  · rw [Rect.idx_unit_val]; show n.val + z.val = n.val; omega
  · rw [Rect.idx_unit_val]; show 0 + a.val = a.val; omega
  · rw [Rect.idx_unit_val]; show 0 + d.val = d.val; omega

theorem three (x : Vec Ideal S512x256 .f32) (w : Vec Ideal S3x256x256 .f32) (i0 i1 i2 j0 j1 j2) (k : Fin 3) (a : Fin 512) (d : Fin 256) :
    (View.canon [⟨Rect.unit (s := S3x512x256) ![2, 0, 0] ![1, 512, 256] i2, k0_pay8 x (View.ld w (Rect.unit (s := S3x256x256) ![2, 0, 0] ![1, 256, 256] j2))⟩,
      ⟨Rect.unit ![1, 0, 0] ![1, 512, 256] i1, k0_pay7 x (View.ld w (Rect.unit ![1, 0, 0] ![1, 256, 256] j1))⟩,
      ⟨Rect.unit ![0, 0, 0] ![1, 512, 256] i0, k0_pay6 x (View.ld w (Rect.unit ![0, 0, 0] ![1, 256, 256] j0))⟩] : Vec Ideal S3x512x256 .f32) (ix3 k a d)
      = (∑ e : Fin 256, x (ix2 a e) * w (ix3 k e d)) * q := by
  have hk : k.val = 0 ∨ k.val = 1 ∨ k.val = 2 := by omega
  rcases hk with hk | hk | hk
  · refine (canon_other 2 k (by omega) i2 _ _ a d).trans ((canon_other 1 k (by omega) i1 _ _ a d).trans ((canon_plane 0 k hk i0 _ _ a d).trans ((pay6_at _ _ _ _ _).trans ?_)))
    exact congrArg (· * q) (Finset.sum_congr rfl fun e _ => congrArg (x (ix2 a e) * ·) (ld_plane 0 k hk j0 w 0 e d))
  · refine (canon_other 2 k (by omega) i2 _ _ a d).trans ((canon_plane 1 k hk i1 _ _ a d).trans ((pay7_at _ _ _ _ _).trans ?_))
    exact congrArg (· * q) (Finset.sum_congr rfl fun e _ => congrArg (x (ix2 a e) * ·) (ld_plane 1 k hk j1 w 0 e d))
  · refine (canon_plane 2 k hk i2 _ _ a d).trans ((pay8_at _ _ _ _ _).trans ?_)
    exact congrArg (· * q) (Finset.sum_congr rfl fun e _ => congrArg (x (ix2 a e) * ·) (ld_plane 2 k hk j2 w 0 e d))

theorem scr_even (c : Dev nD) (t : Fin cfg0.N) (h0 : t.val % 2 = 0) (k : Fin 3) (a : Fin 512) (d : Fin 256) :
    scr m c t (ix3 k a d) = (∑ e : Fin 256, aH m c (ix2 (row t a) e) * aW m c (ix3 k e d)) * q := by
  unfold scr
  have fin := (three (iblk m c 2 t) (iblk m c 4 t) inb_S3x512x256_S1x512x256_0_0_0 inb_S3x512x256_S1x512x256_1_0_0 inb_S3x512x256_S1x512x256_2_0_0
      inb_S3x256x256_S1x256x256_0_0_0 inb_S3x256x256_S1x256x256_1_0_0 inb_S3x256x256_S1x256x256_2_0_0 k a d).trans
      (congrArg (· * q) (Finset.sum_congr rfl fun e _ => congr_arg₂ (· * ·) (iblk2_at m c t a e) (iblk4_at m c t k e d)))
  by_cases h1 : (4 * (t.val % 2) ≤ t.val / 2 % 8 ∧ t.val / 2 % 8 ≤ 4 * (t.val % 2) + 3)
  · rw [outsAt0_A m c t h0 h1]
    dsimp only
    frame_open
    frame_out
    exact fin
  · rw [outsAt0_C m c t h0 h1]
    dsimp only
    frame_open
    frame_out
    exact fin

end Cert.KernelIdeal.Val

end
-- ==== Proof.KI.Blk.lean ====
/- The blocks of the three results after each point, element by element, at the extended reals. -/
module

public import proofs.«01_k».proof.Proof.KI.Scr

@[expose] public section

set_option maxRecDepth 16384

noncomputable section

namespace Cert.KernelIdeal.Val

open Cert.KernelIdeal Cert.KernelIdeal.Gen Idealize.ShloMosaic Idealize.ShloMosaic.TcCoe Idealize.ShloMosaic.Tactic
open Idealize.ShloMosaic.Pipeline (Dat)

variable (m : (ℓ : Loc nD τ sig) → Buf (Elt Ideal) ℓ)

/-- The column of the whole array that column `b` of the block of point `t` is. -/
abbrev col (t : Fin cfg0.N) (b : Fin 2048) : Fin 4096 :=
  ⟨2048 * (t.val % 2) + b.val, by have := b.isLt; omega⟩

/-- `H · W_k`, scaled. -/
abbrev G (c : Dev nD) (k : Fin 3) (r : Fin 4096) (d : Fin 256) : EReal :=
  (∑ e : Fin 256, aH m c (ix2 r e) * aW m c (ix3 k e d)) * q

/-- An element off the diagonal. -/
def raw (c : Dev nD) (k : Fin 3) (r s : Fin 4096) : EReal :=
  Ideal.exp2 (cut (sq2 (aC m c (ix2 r 0)) (aC m c (ix2 r 1)) (aC m c (ix2 s 0)) (aC m c (ix2 s 1))) * decay k)
    * fit (∑ d : Fin 256, G m c k r d * aH m c (ix2 s d))

/-- An element of the result. -/
def res (c : Dev nD) (k : Fin 3) (r s : Fin 4096) : EReal := if r = s then ((Real.log 2 : ℝ) : EReal) else raw m c k r s

theorem iblk0_at (c : Dev nD) (t : Fin cfg0.N) (a : Fin 512) (e : Fin 2) :
    (iblk m c 0 t : Vec Ideal S512x2 .f32) (ix2 a e) = aC m c (ix2 (row t a) e) := by
  obtain ⟨e0, e1, e2, e3, e4, -⟩ := idx t
  blk_ext [iblk, V_main_arg1, e0]

theorem iblk3_at (c : Dev nD) (t : Fin cfg0.N) (b : Fin 2048) (e : Fin 256) :
    (iblk m c 3 t : Vec Ideal S2048x256 .f32) (ix2 b e) = aH m c (ix2 (col t b) e) := by
  obtain ⟨e0, e1, e2, e3, e4, -⟩ := idx t
  blk_ext [iblk, V_main_arg0, e3]

theorem V_main_v0 (c : Dev nD) : V m c main_v0 = transpose S2x4096 [1, 0] (aC m c) transposes_S4096x2_S2x4096_1_0 := rfl

theorem iblk1_at (c : Dev nD) (t : Fin cfg0.N) (e : Fin 2) (s : Fin 4096) :
    (iblk m c 1 t : Vec Ideal S2x4096 .f32) (ix2 e s) = aC m c (ix2 s e) := by
  obtain ⟨e0, e1, e2, e3, e4, -⟩ := idx t
  have h : (win0_1.blk t).view.emb (ix2 e s : S2x4096.Idx) = (ix2 e s : S2x4096.Idx) := by blk_ext [e1]
  show V m c main_v0 ((win0_1.blk t).view.emb (ix2 e s : S2x4096.Idx)) = _
  rw [h, V_main_v0]
  pointwise []

/-- A load of a unit rectangle of a matrix, at an index. -/
theorem ld_mat {n0 n1 k0 k1 : ℕ} (x : Vec Ideal ⟨2, ![n0, n1]⟩ .f32) (off : Fin 2 → ℕ) (o0 o1 : ℕ) (ho : off = ![o0, o1])
    (inb : ∀ z : Fin 2, off z + (![k0, k1] : Fin 2 → ℕ) z ≤ (⟨2, ![n0, n1]⟩ : Shape).size z) (a : Fin k0) (b : Fin k1) (a' : Fin n0) (b' : Fin n1)
    (ha : a'.val = o0 + a.val) (hb : b'.val = o1 + b.val) :
    View.ld x (Rect.unit (s := ⟨2, ![n0, n1]⟩) off ![k0, k1] inb) (ix2 a b) = x (ix2 a' b') := by
  subst ho
  show x _ = x _
  blk_ext []
  · rw [Rect.idx_unit_val]; show o0 + a.val = a'.val; omega
  · rw [Rect.idx_unit_val]; show o1 + b.val = b'.val; omega

theorem coord0 (t : Fin cfg0.N) : (grid0.coords t 0).val = t.val / 2 := by
  have e : (grid0.coords t 0).val = t.val / 2 % 8 := Pipeline.Grid.coords_val t 0 (by decide) rfl
  have := t.isLt
  have : cfg0.N = 16 := N_0
  omega
theorem coord1 (t : Fin cfg0.N) : (grid0.coords t 1).val = t.val % 2 := by
  have e : (grid0.coords t 1).val = t.val / 1 % 2 := Pipeline.Grid.coords_val t 1 (by decide) rfl
  omega

/-- The distances' block. -/
theorem dist_at (c : Dev nD) (t : Fin cfg0.N) (i0 i1 i2 i3) (a : Fin 512) (b : Fin 2048) :
    k0_pay9 (F := Ideal) (View.ld (iblk m c 0 t : Vec Ideal S512x2 .f32) (Rect.unit (s := S512x2) ![0, 0] ![512, 1] i0))
        (View.ld (iblk m c 1 t : Vec Ideal S2x4096 .f32) (Rect.unit (s := S2x4096) (k0_off1 (grid0.coords t)) ![1, 2048] i1))
        (View.ld (iblk m c 0 t : Vec Ideal S512x2 .f32) (Rect.unit (s := S512x2) ![0, 1] ![512, 1] i2))
        (View.ld (iblk m c 1 t : Vec Ideal S2x4096 .f32) (Rect.unit (s := S2x4096) (k0_off2 (grid0.coords t)) ![1, 2048] i3)) (ix2 a b)
      = cut (sq2 (aC m c (ix2 (row t a) 0)) (aC m c (ix2 (row t a) 1)) (aC m c (ix2 (col t b) 0)) (aC m c (ix2 (col t b) 1))) := by
  have c1 := coord1 t
  refine (pay9_at _ _ _ _ a b).trans ?_
  have l0 := (ld_mat (iblk m c 0 t : Vec Ideal S512x2 .f32) ![0, 0] 0 0 rfl i0 a (0 : Fin 1) a 0 (by omega) rfl).trans (iblk0_at m c t a 0)
  have l2 := (ld_mat (iblk m c 0 t : Vec Ideal S512x2 .f32) ![0, 1] 0 1 rfl i2 a (0 : Fin 1) a 1 (by omega) rfl).trans (iblk0_at m c t a 1)
  have l1 := (ld_mat (iblk m c 1 t : Vec Ideal S2x4096 .f32) (k0_off1 (grid0.coords t)) 0 (2048 * (t.val % 2)) (by rw [k0_off1_eq, c1]) i1 (0 : Fin 1) b 0 (col t b)
    rfl rfl).trans (iblk1_at m c t 0 (col t b))
  have l3 := (ld_mat (iblk m c 1 t : Vec Ideal S2x4096 .f32) (k0_off2 (grid0.coords t)) 1 (2048 * (t.val % 2)) (by rw [k0_off2_eq, c1]) i3 (0 : Fin 1) b 1 (col t b)
    rfl rfl).trans (iblk1_at m c t 1 (col t b))
  exact congrArg cut (congr (congr (congr (congrArg sq2 l0) l2) l1) l3)

/-- The pairing of a scratch plane with the right block. -/
theorem pair_at (c : Dev nD) (t : Fin cfg0.N) (k : Fin 3) (g : Vec Ideal S1x512x256 .f32) (a : Fin 512) (hg : ∀ d : Fin 256, g (ix3 0 a d) = G m c k (row t a) d) (b : Fin 2048) :
    pair g (iblk m c 3 t) a b = ∑ d : Fin 256, G m c k (row t a) d * aH m c (ix2 (col t b) d) :=
  Finset.sum_congr rfl fun d _ => congr_arg₂ (· * ·) (hg d) (iblk3_at m c t b d)

/-- The scratch's plane 0, just computed. -/
theorem fresh6 (c : Dev nD) (t : Fin cfg0.N) (inb) (a : Fin 512) (d : Fin 256) :
    k0_pay6 (F := Ideal) (iblk m c 2 t : Vec Ideal S512x256 .f32)
      (View.ld (iblk m c 4 t : Vec Ideal S3x256x256 .f32) (Rect.unit (s := S3x256x256) ![0, 0, 0] ![1, 256, 256] inb)) (ix3 0 a d) = G m c 0 (row t a) d :=
  (pay6_at _ _ _ _ _).trans (congrArg (· * q) (Finset.sum_congr rfl fun e _ =>
    congr_arg₂ (fun x y : EReal => x * y) (iblk2_at m c t a e) ((ld_plane 0 0 rfl inb _ 0 e d).trans (iblk4_at m c t 0 e d))))

/-- The scratch's plane 1, just computed. -/
theorem fresh7 (c : Dev nD) (t : Fin cfg0.N) (inb) (a : Fin 512) (d : Fin 256) :
    k0_pay7 (F := Ideal) (iblk m c 2 t : Vec Ideal S512x256 .f32)
      (View.ld (iblk m c 4 t : Vec Ideal S3x256x256 .f32) (Rect.unit (s := S3x256x256) ![1, 0, 0] ![1, 256, 256] inb)) (ix3 0 a d) = G m c 1 (row t a) d :=
  (pay7_at _ _ _ _ _).trans (congrArg (· * q) (Finset.sum_congr rfl fun e _ =>
    congr_arg₂ (fun x y : EReal => x * y) (iblk2_at m c t a e) ((ld_plane 1 1 rfl inb _ 0 e d).trans (iblk4_at m c t 1 e d))))

/-- The scratch's plane 2, just computed. -/
theorem fresh8 (c : Dev nD) (t : Fin cfg0.N) (inb) (a : Fin 512) (d : Fin 256) :
    k0_pay8 (F := Ideal) (iblk m c 2 t : Vec Ideal S512x256 .f32)
      (View.ld (iblk m c 4 t : Vec Ideal S3x256x256 .f32) (Rect.unit (s := S3x256x256) ![2, 0, 0] ![1, 256, 256] inb)) (ix3 0 a d) = G m c 2 (row t a) d :=
  (pay8_at _ _ _ _ _).trans (congrArg (· * q) (Finset.sum_congr rfl fun e _ =>
    congr_arg₂ (fun x y : EReal => x * y) (iblk2_at m c t a e) ((ld_plane 2 2 rfl inb _ 0 e d).trans (iblk4_at m c t 2 e d))))

theorem ld_slab (k : ℕ) (n : Fin 3) (hn : n.val = k) (inb : ∀ x : Fin 3, (![k, 0, 0] : Fin 3 → ℕ) x + (![1, 512, 256] : Fin 3 → ℕ) x ≤ S3x512x256.size x)
    (x : Vec Ideal S3x512x256 .f32) (z : Fin 1) (a : Fin 512) (d : Fin 256) :
    View.ld x (Rect.unit (s := S3x512x256) ![k, 0, 0] ![1, 512, 256] inb) (ix3 z a d) = x (ix3 n a d) := by
  subst hn
  show x _ = x _
  blk_ext []
  · rw [Rect.idx_unit_val]; show n.val + z.val = n.val; omega
  · rw [Rect.idx_unit_val]; show 0 + a.val = a.val; omega
  · rw [Rect.idx_unit_val]; show 0 + d.val = d.val; omega

/-- The scratch plane carried over from the point before. -/
theorem kept_at (c : Dev nD) (t : Fin cfg0.N) (h0 : ¬ t.val % 2 = 0) (hp : t.val - 1 < cfg0.N) (k : ℕ) (n : Fin 3) (hn : n.val = k) (inb) (a : Fin 512) (d : Fin 256) :
    View.ld ((outsAt0 m c (t.val - 1) hp).2.2.2 : Vec Ideal S3x512x256 .f32) (Rect.unit (s := S3x512x256) ![k, 0, 0] ![1, 512, 256] inb) (ix3 (0 : Fin 1) a d) = G m c n (row t a) d := by
  refine (ld_slab k n hn inb _ 0 a d).trans ((scr_even m c ⟨t.val - 1, hp⟩ (by show (t.val - 1) % 2 = 0; omega) n a d).trans ?_)
  have e : row ⟨t.val - 1, hp⟩ a = row t a := Fin.ext (by show 512 * ((t.val - 1) / 2) + a.val = 512 * (t.val / 2) + a.val; omega)
  rw [e]

theorem whole5 (c : Dev nD) (t : Fin cfg0.N) (D : FVec Ideal S512x2048 .f32) (g : Vec Ideal S1x512x256 .f32) (a : Fin 512) (b : Fin 2048)
    (hD : D (ix2 a b) = cut (sq2 (aC m c (ix2 (row t a) 0)) (aC m c (ix2 (row t a) 1)) (aC m c (ix2 (col t b) 0)) (aC m c (ix2 (col t b) 1))))
    (hg : ∀ d : Fin 256, g (ix3 0 a d) = G m c 0 (row t a) d) :
    k0_pay11 (F := Ideal) D (k0_pay10 (iblk m c 3 t : Vec Ideal S2048x256 .f32) g) (ix2 a b) = raw m c 0 (row t a) (col t b) := by
  refine (raw5_at D _ g a b).trans ?_
  rw [hD, pair_at m c t 0 g a hg b]
  rfl

theorem whole6 (c : Dev nD) (t : Fin cfg0.N) (D : FVec Ideal S512x2048 .f32) (g : Vec Ideal S1x512x256 .f32) (a : Fin 512) (b : Fin 2048)
    (hD : D (ix2 a b) = cut (sq2 (aC m c (ix2 (row t a) 0)) (aC m c (ix2 (row t a) 1)) (aC m c (ix2 (col t b) 0)) (aC m c (ix2 (col t b) 1))))
    (hg : ∀ d : Fin 256, g (ix3 0 a d) = G m c 1 (row t a) d) :
    k0_pay12 (F := Ideal) D (iblk m c 3 t : Vec Ideal S2048x256 .f32) g (ix2 a b) = raw m c 1 (row t a) (col t b) := by
  refine (raw6_at D _ g a b).trans ?_
  rw [hD, pair_at m c t 1 g a hg b]
  rfl

theorem whole7 (c : Dev nD) (t : Fin cfg0.N) (D : FVec Ideal S512x2048 .f32) (g : Vec Ideal S1x512x256 .f32) (a : Fin 512) (b : Fin 2048)
    (hD : D (ix2 a b) = cut (sq2 (aC m c (ix2 (row t a) 0)) (aC m c (ix2 (row t a) 1)) (aC m c (ix2 (col t b) 0)) (aC m c (ix2 (col t b) 1))))
    (hg : ∀ d : Fin 256, g (ix3 0 a d) = G m c 2 (row t a) d) :
    k0_pay1 (F := Ideal) D (k0_pay13 (iblk m c 3 t : Vec Ideal S2048x256 .f32) g) k0_pay14 (ix2 a b) = raw m c 2 (row t a) (col t b) := by
  refine (raw7_at D _ g a b).trans ?_
  rw [hD, pair_at m c t 2 g a hg b]
  rfl

/-- The diagonal block written over the whole one. -/
theorem diag_at (off : Fin 2 → ℕ) (o : ℕ) (ho : off = ![0, o]) (inb : ∀ z : Fin 2, off z + (![512, 512] : Fin 2 → ℕ) z ≤ S512x2048.size z)
    (inb' : ∀ z : Fin 2, off z + (![512, 512] : Fin 2 → ℕ) z ≤ S512x2048.size z)
    (inw : ∀ z : Fin 2, (![0, 0] : Fin 2 → ℕ) z + (![512, 2048] : Fin 2 → ℕ) z ≤ S512x2048.size z) (X : Vec Ideal S512x2048 .f32)
    (pay : Vec Ideal S512x512 .f32 → Vec Ideal S512x512 .f32)
    (hpay : ∀ v (a b : Fin 512), pay v (ix2 a b) = if a = b then ((Real.log 2 : ℝ) : EReal) else v (ix2 a b)) (a : Fin 512) (b : Fin 2048) :
    (View.canon [⟨Rect.unit (s := S512x2048) off ![512, 512] inb, pay (View.ld X (Rect.unit (s := S512x2048) off ![512, 512] inb'))⟩,
      ⟨Rect.unit (s := S512x2048) ![0, 0] ![512, 2048] inw, X⟩] : Vec Ideal S512x2048 .f32) (ix2 a b)
      = if b.val = o + a.val then ((Real.log 2 : ℝ) : EReal) else X (ix2 a b) := by
  subst ho
  by_cases hb : o ≤ b.val ∧ b.val < o + 512
  · have e : (Rect.unit (s := S512x2048) ![0, o] ![512, 512] inb).emb (ix2 a ⟨b.val - o, by omega⟩) = ix2 a b := by
      blk_ext []
    have l := ld_mat X ![0, o] 0 o rfl inb' a (⟨b.val - o, by omega⟩ : Fin 512) a b (by omega) (by show b.val = o + (b.val - o); omega)
    rw [← e]
    refine (View.canon_cons_emb _ _ _ _).trans ?_
    refine (hpay _ _ _).trans ?_
    rw [e]
    have ha := a.isLt
    by_cases h : b.val = o + a.val
    · rw [if_pos (Fin.ext (by show a.val = b.val - o; omega)), if_pos h]
    · rw [if_neg (fun h' => h (by have := congrArg Fin.val h'; have : a.val = b.val - o := this; omega)), if_neg h]
      exact l
  · rw [if_neg (by have := a.isLt; omega)]
    refine (View.canon_cons_of_not_mem _ _ ?_).trans ?_
    · rw [Rect.mem_set_unit]
      intro hh
      have h1 : o ≤ b.val ∧ b.val < o + 512 := hh 1
      exact hb h1
    · exact congrFun (View.canon_cons_unit_lit (S := S512x2048) inw X [] (by decide)) (ix2 a b)

end Cert.KernelIdeal.Val

end
-- ==== Proof.KI.Value.lean ====
/- The three result arrays after the kernel's run, element by element, at the extended reals. -/
module

public import proofs.«01_k».proof.Proof.KI.Blk

@[expose] public section

set_option maxRecDepth 16384

noncomputable section

namespace Cert.KernelIdeal.Val

open Cert.KernelIdeal Cert.KernelIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The diagonal of the whole array, met inside the block that holds it. -/
theorem on_diag (t : Fin cfg0.N) (h1 : 4 * (t.val % 2) ≤ t.val / 2 % 8 ∧ t.val / 2 % 8 ≤ 4 * (t.val % 2) + 3) (a : Fin 512) (b : Fin 2048) :
    b.val = 512 * ((grid0.coords t 0).val % 4) + a.val ↔ row t a = col t b := by
  rw [coord0]
  have ht := t.isLt
  have hN : cfg0.N = 16 := N_0
  have ha := a.isLt
  have hb := b.isLt
  have e8 : t.val / 2 % 8 = t.val / 2 := Nat.mod_eq_of_lt (by omega)
  rw [e8] at h1
  have key : row t a = col t b ↔ 512 * (t.val / 2) + a.val = 2048 * (t.val % 2) + b.val := Fin.ext_iff
  rw [key]
  rcases Nat.mod_two_eq_zero_or_one t.val with e | e <;> rw [e] at h1 ⊢ <;> omega

/-- The other blocks miss the diagonal. -/
theorem off_diag (t : Fin cfg0.N) (h1 : ¬ (4 * (t.val % 2) ≤ t.val / 2 % 8 ∧ t.val / 2 % 8 ≤ 4 * (t.val % 2) + 3)) (a : Fin 512) (b : Fin 2048) :
    row t a ≠ col t b := by
  intro h
  have h' : 512 * (t.val / 2) + a.val = 2048 * (t.val % 2) + b.val := congrArg Fin.val h
  have ht := t.isLt
  have hN : cfg0.N = 16 := N_0
  have ha := a.isLt
  have hb := b.isLt
  have e8 : t.val / 2 % 8 = t.val / 2 := Nat.mod_eq_of_lt (by omega)
  rw [e8] at h1
  clear h
  rcases Nat.mod_two_eq_zero_or_one t.val with e | e <;> rw [e] at h1 h' <;> omega

theorem diag_res {c : Dev nD} {k : Fin 3} {t : Fin cfg0.N} (h1 : 4 * (t.val % 2) ≤ t.val / 2 % 8 ∧ t.val / 2 % 8 ≤ 4 * (t.val % 2) + 3) {a : Fin 512} {b : Fin 2048}
    {x y : EReal} (h : x = if b.val = 512 * ((grid0.coords t 0).val % 4) + a.val then ((Real.log 2 : ℝ) : EReal) else y)
    (hy : y = raw m c k (row t a) (col t b)) : x = res m c k (row t a) (col t b) := by
  rw [h, hy, res]
  by_cases e : row t a = col t b
  · rw [if_pos e, if_pos ((on_diag t h1 a b).mpr e)]
  · rw [if_neg e, if_neg (fun h => e ((on_diag t h1 a b).mp h))]

theorem plain_res {c : Dev nD} {k : Fin 3} {t : Fin cfg0.N} (h1 : ¬ (4 * (t.val % 2) ≤ t.val / 2 % 8 ∧ t.val / 2 % 8 ≤ 4 * (t.val % 2) + 3)) {a : Fin 512} {b : Fin 2048}
    {x : EReal} (h : x = raw m c k (row t a) (col t b)) : x = res m c k (row t a) (col t b) := by
  rw [h, res, if_neg (off_diag t h1 a b)]

/-- The block of result 0 after a point. -/
theorem block5 (c : Dev nD) (t : Fin cfg0.N) (a : Fin 512) (b : Fin 2048) :
    ((outsAt0 m c t.val t.isLt).1 : Vec Ideal S512x2048 .f32) (ix2 a b) = res m c 0 (row t a) (col t b) := by
  by_cases h0 : t.val % 2 = 0 <;> by_cases h1 : (4 * (t.val % 2) ≤ t.val / 2 % 8 ∧ t.val / 2 % 8 ≤ 4 * (t.val % 2) + 3)
  · rw [outsAt0_A m c t h0 h1]
    dsimp only
    frame_open
    simp (disch := decide) only [↓ View.readCov_skip, ↓ View.readCov_cons_toLoadRect, ↓ View.readCov_fill]
    frame_out
    exact diag_res m h1 (diag_at _ _ (k0_off3_eq _) _ _ _ _ _ pay3_at a b) (whole5 m c t _ _ a b (dist_at m c t _ _ _ _ a b) (fresh6 m c t _ a))
  · rw [outsAt0_C m c t h0 h1]
    dsimp only
    frame_open
    simp (disch := decide) only [↓ View.readCov_skip, ↓ View.readCov_cons_toLoadRect, ↓ View.readCov_fill]
    frame_out
    exact plain_res m h1 (whole5 m c t _ _ a b (dist_at m c t _ _ _ _ a b) (fresh6 m c t _ a))
  · rw [outsAt0_D m c t h0 h1]
    dsimp only
    frame_open
    simp (disch := decide) only [↓ View.readCov_skip, ↓ View.readCov_cons_toLoadRect, ↓ View.readCov_fill]
    frame_out
    simp only [read_unread_whole]
    exact diag_res m h1 (diag_at _ _ (k0_off3_eq _) _ _ _ _ _ pay3_at a b) (whole5 m c t _ _ a b (dist_at m c t _ _ _ _ a b) (kept_at m c t h0 _ 0 0 rfl _ a))
  · rw [outsAt0_B m c t h0 h1]
    dsimp only
    frame_open
    simp (disch := decide) only [↓ View.readCov_skip, ↓ View.readCov_cons_toLoadRect, ↓ View.readCov_fill]
    frame_out
    simp only [read_unread_whole]
    exact plain_res m h1 (whole5 m c t _ _ a b (dist_at m c t _ _ _ _ a b) (kept_at m c t h0 _ 0 0 rfl _ a))

/-- The block of result 1 after a point. -/
theorem block6 (c : Dev nD) (t : Fin cfg0.N) (a : Fin 512) (b : Fin 2048) :
    ((outsAt0 m c t.val t.isLt).2.1 : Vec Ideal S512x2048 .f32) (ix2 a b) = res m c 1 (row t a) (col t b) := by
  by_cases h0 : t.val % 2 = 0 <;> by_cases h1 : (4 * (t.val % 2) ≤ t.val / 2 % 8 ∧ t.val / 2 % 8 ≤ 4 * (t.val % 2) + 3)
  · rw [outsAt0_A m c t h0 h1]
    dsimp only
    frame_open
    simp (disch := decide) only [↓ View.readCov_skip, ↓ View.readCov_cons_toLoadRect, ↓ View.readCov_fill]
    frame_out
    exact diag_res m h1 (diag_at _ _ (k0_off3_eq _) _ _ _ _ _ pay4_at a b) (whole6 m c t _ _ a b (dist_at m c t _ _ _ _ a b) (fresh7 m c t _ a))
  · rw [outsAt0_C m c t h0 h1]
    dsimp only
    frame_open
    simp (disch := decide) only [↓ View.readCov_skip, ↓ View.readCov_cons_toLoadRect, ↓ View.readCov_fill]
    frame_out
    exact plain_res m h1 (whole6 m c t _ _ a b (dist_at m c t _ _ _ _ a b) (fresh7 m c t _ a))
  · rw [outsAt0_D m c t h0 h1]
    dsimp only
    frame_open
    simp (disch := decide) only [↓ View.readCov_skip, ↓ View.readCov_cons_toLoadRect, ↓ View.readCov_fill]
    frame_out
    simp only [read_unread_whole]
    exact diag_res m h1 (diag_at _ _ (k0_off3_eq _) _ _ _ _ _ pay4_at a b) (whole6 m c t _ _ a b (dist_at m c t _ _ _ _ a b) (kept_at m c t h0 _ 1 1 rfl _ a))
  · rw [outsAt0_B m c t h0 h1]
    dsimp only
    frame_open
    simp (disch := decide) only [↓ View.readCov_skip, ↓ View.readCov_cons_toLoadRect, ↓ View.readCov_fill]
    frame_out
    simp only [read_unread_whole]
    exact plain_res m h1 (whole6 m c t _ _ a b (dist_at m c t _ _ _ _ a b) (kept_at m c t h0 _ 1 1 rfl _ a))

/-- The block of result 2 after a point. -/
theorem block7 (c : Dev nD) (t : Fin cfg0.N) (a : Fin 512) (b : Fin 2048) :
    ((outsAt0 m c t.val t.isLt).2.2.1 : Vec Ideal S512x2048 .f32) (ix2 a b) = res m c 2 (row t a) (col t b) := by
  by_cases h0 : t.val % 2 = 0 <;> by_cases h1 : (4 * (t.val % 2) ≤ t.val / 2 % 8 ∧ t.val / 2 % 8 ≤ 4 * (t.val % 2) + 3)
  · rw [outsAt0_A m c t h0 h1]
    dsimp only
    frame_open
    simp (disch := decide) only [↓ View.readCov_skip, ↓ View.readCov_cons_toLoadRect, ↓ View.readCov_fill]
    frame_out
    exact diag_res m h1 (diag_at _ _ (k0_off3_eq _) _ _ _ _ _ pay5_at a b) (whole7 m c t _ _ a b (dist_at m c t _ _ _ _ a b) (fresh8 m c t _ a))
  · rw [outsAt0_C m c t h0 h1]
    dsimp only
    frame_open
    simp (disch := decide) only [↓ View.readCov_skip, ↓ View.readCov_cons_toLoadRect, ↓ View.readCov_fill]
    frame_out
    exact plain_res m h1 (whole7 m c t _ _ a b (dist_at m c t _ _ _ _ a b) (fresh8 m c t _ a))
  · rw [outsAt0_D m c t h0 h1]
    dsimp only
    frame_open
    simp (disch := decide) only [↓ View.readCov_skip, ↓ View.readCov_cons_toLoadRect, ↓ View.readCov_fill]
    frame_out
    simp only [read_unread_whole]
    exact diag_res m h1 (diag_at _ _ (k0_off3_eq _) _ _ _ _ _ pay5_at a b) (whole7 m c t _ _ a b (dist_at m c t _ _ _ _ a b) (kept_at m c t h0 _ 2 2 rfl _ a))
  · rw [outsAt0_B m c t h0 h1]
    dsimp only
    frame_open
    simp (disch := decide) only [↓ View.readCov_skip, ↓ View.readCov_cons_toLoadRect, ↓ View.readCov_fill]
    frame_out
    simp only [read_unread_whole]
    exact plain_res m h1 (whole7 m c t _ _ a b (dist_at m c t _ _ _ _ a b) (kept_at m c t h0 _ 2 2 rfl _ a))

theorem at_ix2 (y : S512x2048.Idx) : ∃ (a : Fin 512) (b : Fin 2048), y = ix2 a b := ⟨y 0, y 1, by blk_ext []⟩

/-- Result `k`, as an array. -/
def arr (c : Dev nD) (k : Fin 3) : Vec Ideal S4096x4096 .f32 := fun i => res m c k (i 0) (i 1)

theorem final5 (c : Dev nD) : (dats m 0 c).arrAt 5 cfg0.N = arr m c 0 := by
  refine (dats m 0 c).arrAt_eq_of_covers 5 _ (by decide +kernel) fun t hf y => ?_
  obtain ⟨-, -, -, -, -, e5, e6, e7⟩ := idx t
  blk_simp
  rw [after0_5]
  obtain ⟨a, b, rfl⟩ := at_ix2 y
  refine (block5 m c t a b).trans ?_
  have e0 : ((win0_5.blk t).view.emb (ix2 a b : S512x2048.Idx) : S4096x4096.Idx) = ix2 (row t a) (col t b) := by blk_ext [e5]
  exact (congrArg (arr m c 0) e0).symm

theorem final6 (c : Dev nD) : (dats m 0 c).arrAt 6 cfg0.N = arr m c 1 := by
  refine (dats m 0 c).arrAt_eq_of_covers 6 _ (by decide +kernel) fun t hf y => ?_
  obtain ⟨-, -, -, -, -, e5, e6, e7⟩ := idx t
  blk_simp
  rw [after0_6]
  obtain ⟨a, b, rfl⟩ := at_ix2 y
  refine (block6 m c t a b).trans ?_
  have e0 : ((win0_6.blk t).view.emb (ix2 a b : S512x2048.Idx) : S4096x4096.Idx) = ix2 (row t a) (col t b) := by blk_ext [e6]
  exact (congrArg (arr m c 1) e0).symm

theorem final7 (c : Dev nD) : (dats m 0 c).arrAt 7 cfg0.N = arr m c 2 := by
  refine (dats m 0 c).arrAt_eq_of_covers 7 _ (by decide +kernel) fun t hf y => ?_
  obtain ⟨-, -, -, -, -, e5, e6, e7⟩ := idx t
  blk_simp
  rw [after0_7]
  obtain ⟨a, b, rfl⟩ := at_ix2 y
  refine (block7 m c t a b).trans ?_
  have e0 : ((win0_7.blk t).view.emb (ix2 a b : S512x2048.Idx) : S4096x4096.Idx) = ix2 (row t a) (col t b) := by blk_ext [e7]
  exact (congrArg (arr m c 2) e0).symm

/-- The kernel's run: its three results and its arguments. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v1_0) = arr m c 0
      ∧ r.2.mem ((c.tc : Thread nD τ).loc main_v1_1) = arr m c 1
      ∧ r.2.mem ((c.tc : Thread nD τ).loc main_v1_2) = arr m c 2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨((h c).1 5).trans (final5 m c), ((h c).1 6).trans (final6 m c), ((h c).1 7).trans (final7 m c),
    ((h c).1 3).trans (((dats m 0 c).arrAt_in 3 rfl _).trans ((A_eq m c 3).trans (V_main_arg0 m c))),
    ((h c).1 0).trans (((dats m 0 c).arrAt_in 0 rfl _).trans ((A_eq m c 0).trans (V_main_arg1 m c))),
    ((h c).1 4).trans (((dats m 0 c).arrAt_in 4 rfl _).trans ((A_eq m c 4).trans (V_main_arg2 m c)))⟩) (run_main m g)

end Cert.KernelIdeal.Val

end
-- ==== Proof.Alg.lean ====
/- The arithmetic of extended reals that makes the kernel's formula the plain one. -/
module

public import Idealize.ShloMosaic.PureOps.Ideal
public import Idealize.ShloMosaic.Lib.IdealHost
public import Mathlib.Analysis.SpecialFunctions.Pow.Real

@[expose] public section

namespace Cert.Alg

open Idealize.ShloMosaic

theorem c_q : Ideal.ofBits .f32 0x3E85C28F#32 = ((8766095 / 33554432 : ℝ) : EReal) := by
  simp [Ideal.ofBits, Ideal.ieee, -EReal.coe_mul]; norm_num
theorem c_scale : Ideal.ofBits .f32 0x3F85C28F#32 = ((8766095 / 8388608 : ℝ) : EReal) := by
  simp [Ideal.ofBits, Ideal.ieee, -EReal.coe_mul]; norm_num
theorem c_four : Ideal.ofBits .f32 0x40800000#32 = ((4 : ℝ) : EReal) := by
  simp [Ideal.ofBits, Ideal.ieee, -EReal.coe_mul]; norm_num
theorem c_1000 : Ideal.ofBits .f32 0x447A0000#32 = ((1000 : ℝ) : EReal) := by
  simp [Ideal.ofBits, Ideal.ieee, -EReal.coe_mul]; norm_num
theorem c_three : Ideal.ofBits .f32 0x40400000#32 = ((3 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_cut : Ideal.ofBits .f32 0x3C23D70A#32 = ((5368709 / 536870912 : ℝ) : EReal) := by
  simp [Ideal.ofBits, Ideal.ieee, -EReal.coe_mul]; norm_num
/-- The number under the root, `1e-35` as it is rounded. -/
noncomputable def tiny : ℝ := 13937966 / 1393796574908163946345982392040522594123776
theorem c_tiny : Ideal.ofBits .f32 0x0554AD2E#32 = ((tiny : ℝ) : EReal) := by
  simp [Ideal.ofBits, Ideal.ieee, -EReal.coe_mul, tiny]; norm_num
theorem tiny_pos : 0 < tiny := by unfold tiny; norm_num

/-- A nonnegative finite factor goes through a sum. -/
theorem mul_sum {ι : Type} (s : Finset ι) (f : ι → EReal) (q : EReal) (h0 : 0 ≤ q) (ht : q ≠ ⊤) : q * ∑ i ∈ s, f i = ∑ i ∈ s, q * f i := by
  classical
  induction s using Finset.induction_on with
  | empty => simp
  | insert a s ha ih => rw [Finset.sum_insert ha, Finset.sum_insert ha, EReal.left_distrib_of_nonneg_of_ne_top h0 ht, ih]

/-- The scaled left factor against the quotient of the plain product. -/
theorem pairing {n : ℕ} (A h : Fin n → EReal) :
    ∑ d : Fin n, (A d * Ideal.ofBits .f32 0x3E85C28F#32) * h d
      = Ideal.ofBits .f32 0x3F85C28F#32 * Ideal.div (∑ d : Fin n, A d * h d) (Ideal.ofBits .f32 0x40800000#32) := by
  rw [c_q, c_scale, c_four, Ideal.div_coe (by norm_num)]
  have e : ∀ d, A d * ((8766095 / 33554432 : ℝ) : EReal) * h d = ((8766095 / 33554432 : ℝ) : EReal) * (A d * h d) := fun d => by
    rw [mul_comm (A d), mul_assoc]
  simp only [e]
  rw [← mul_sum _ _ _ (by exact_mod_cast (by norm_num : (0:ℝ) ≤ 8766095 / 33554432)) (EReal.coe_ne_top _), mul_comm (∑ d, A d * h d), ← mul_assoc, ← EReal.coe_mul]
  norm_num

/-- The distance and its decay. -/
theorem decay_eq (d L : ℝ) (hd : 0 < d) (hL : 0 < L) :
    Ideal.exp2 ((if (d : EReal) * Ideal.rsqrt d ≤ Ideal.ofBits .f32 0x3C23D70A#32 then (d : EReal) * Ideal.rsqrt d else ⊤) * ((-(((Real.log 2) * (L / 1000))⁻¹) : ℝ) : EReal))
      = Ideal.exp (Ideal.div (-(Ideal.ofBits .f32 0x447A0000#32 * Ideal.sqrt d)) (L : EReal))
        * (((BitVec.ofBool (decide (Ideal.sqrt d ≤ Ideal.ofBits .f32 0x3C23D70A#32))).toNat : ℝ) : EReal) := by
  have l2 : 0 < Real.log 2 := Real.log_pos (by norm_num)
  have hs : Ideal.sqrt d = ((Real.sqrt d : ℝ) : EReal) := by
    show (if d < 0 then (⊥ : EReal) else ((Real.sqrt d : ℝ) : EReal)) = _
    rw [if_neg (not_lt.mpr hd.le)]
  have hr : (d : EReal) * Ideal.rsqrt d = ((Real.sqrt d : ℝ) : EReal) := by
    have : Ideal.rsqrt d = (((Real.sqrt d)⁻¹ : ℝ) : EReal) := by
      show (if d < 0 then (⊥ : EReal) else if d = 0 then ⊤ else (((Real.sqrt d)⁻¹ : ℝ) : EReal)) = _
      rw [if_neg (not_lt.mpr hd.le), if_neg hd.ne']
    rw [this, ← EReal.coe_mul]
    congr 1
    have := Real.sqrt_pos.mpr hd
    field_simp
    exact (Real.sq_sqrt hd.le).symm
  rw [hr, hs, c_cut, c_1000, ← EReal.coe_mul, ← EReal.coe_neg, Ideal.div_coe hL.ne']
  by_cases h : ((Real.sqrt d : ℝ) : EReal) ≤ ((5368709 / 536870912 : ℝ) : EReal)
  · rw [if_pos h]
    rw [← EReal.coe_mul, ← EReal.coe_mul]
    show ((Real.rpow 2 _ : ℝ) : EReal) = ((Real.exp _ : ℝ) : EReal) * _
    rw [Real.rpow_eq_pow, Real.rpow_def_of_pos (by norm_num)]
    simp only [h, decide_true, BitVec.ofBool_true]
    have e1 : (((1#1).toNat : ℝ) : EReal) = 1 := by simp
    rw [show (((BitVec.toNat 1 : ℕ) : ℝ) : EReal) = 1 from e1, mul_one]
    congr 2
    field_simp
  · rw [if_neg h, EReal.top_mul_coe_of_neg (by simp; positivity)]
    simp only [h, decide_false, BitVec.ofBool_false]
    show (0 : EReal) = _
    simp

/-- One element off the diagonal: the kernel's formula, of real coordinates, is the plain one. -/
theorem element {n : ℕ} (x x' y y' L : ℝ) (hL : 0 < L) (A h : Fin n → EReal) (D u v w : EReal)
    (hD : D = Ideal.sqrt (((x : EReal) - y) * ((x : EReal) - y) + ((x' : EReal) - y') * ((x' : EReal) - y') + Ideal.ofBits .f32 0x0554AD2E#32)) :
    Ideal.exp (Ideal.div (-(Ideal.ofBits .f32 0x447A0000#32 * D)) (L : EReal))
        * FloatOps.uitofp (F := Ideal) .f32 (BitVec.ofBool (decide (D ≤ Ideal.ofBits .f32 0x3C23D70A#32)))
        * (u + v * Ideal.tanh (Ideal.ofBits .f32 0x3F85C28F#32 * Ideal.div (∑ d : Fin n, A d * h d) (Ideal.ofBits .f32 0x40800000#32) + w))
      = Ideal.exp2 ((if (((x : EReal) - y) * ((x : EReal) - y) + (((x' : EReal) - y') * ((x' : EReal) - y') + Ideal.ofBits .f32 0x0554AD2E#32))
              * Ideal.rsqrt (((x : EReal) - y) * ((x : EReal) - y) + (((x' : EReal) - y') * ((x' : EReal) - y') + Ideal.ofBits .f32 0x0554AD2E#32)) ≤ Ideal.ofBits .f32 0x3C23D70A#32
            then (((x : EReal) - y) * ((x : EReal) - y) + (((x' : EReal) - y') * ((x' : EReal) - y') + Ideal.ofBits .f32 0x0554AD2E#32))
              * Ideal.rsqrt (((x : EReal) - y) * ((x : EReal) - y) + (((x' : EReal) - y') * ((x' : EReal) - y') + Ideal.ofBits .f32 0x0554AD2E#32)) else ⊤)
          * ((-(((Real.log 2) * (L / 1000))⁻¹) : ℝ) : EReal))
        * (u + v * Ideal.tanh (∑ d : Fin n, (A d * Ideal.ofBits .f32 0x3E85C28F#32) * h d + w)) := by
  have hd : ((x : EReal) - y) * ((x : EReal) - y) + (((x' : EReal) - y') * ((x' : EReal) - y') + Ideal.ofBits .f32 0x0554AD2E#32)
      = (((x - y) * (x - y) + ((x' - y') * (x' - y') + tiny) : ℝ) : EReal) := by
    rw [c_tiny]; push_cast; rfl
  have hpos : 0 < (x - y) * (x - y) + ((x' - y') * (x' - y') + tiny) := by
    have := tiny_pos; have := mul_self_nonneg (x - y); have := mul_self_nonneg (x' - y'); linarith
  rw [hD, add_assoc, hd, pairing, decay_eq _ L hpos hL]
  rfl

/-- The logarithm of two. -/
theorem log_two : Ideal.log (Ideal.ofBits .f32 0x40000000#32) = ((Real.log 2 : ℝ) : EReal) := by
  rw [c_two]
  show (if (2 : ℝ) ≤ 0 then (⊥ : EReal) else ((Real.log 2 : ℝ) : EReal)) = _
  rw [if_neg (by norm_num)]

/-- The test of the diagonal. -/
theorem on_diag {α : Type} (r s : Fin 4096) (x y : α) :
    Scalar.select (IntOp.cmpi .eq (BitVec.ofNat 32 r.val) (BitVec.ofNat 32 s.val)) x y = if r = s then x else y := by
  have hr := r.isLt
  have hs := s.isLt
  by_cases h : r = s
  · subst h; simp [Scalar.select, IntOp.cmpi]
  · have : ¬ BitVec.ofNat 32 r.val = BitVec.ofNat 32 s.val := fun e => h (Fin.ext (by
      have := congrArg BitVec.toNat e
      simp only [BitVec.toNat_ofNat] at this
      omega))
    simp [Scalar.select, IntOp.cmpi, h, beq_eq_false_iff_ne.mpr this]

end Cert.Alg
-- ==== Proof.FI.At.lean ====
/- The whole-array formula's results, element by element, at the extended reals. -/
module

public import proofs.«01_k».proof.Proof.Gen.FittedIdeal.Run
public import proofs.«01_k».proof.Proof.Alg
public import proofs.«01_k».proof.Proof.KI.Pay
public import Idealize.ShloMosaic.Lib.Pointwise
public import Idealize.ShloMosaic.Lib.Tactic.CleanTypes

@[expose] public section

set_option maxRecDepth 16384

noncomputable section

namespace Cert.FittedIdeal.Val

open Cert.KernelIdeal.Val (q sq2 cut fit decay)
open Cert.FittedIdeal Cert.FittedIdeal.Gen Cert.FittedIdeal.Value Idealize.ShloMosaic Idealize.ShloMosaic.TcCoe Idealize.ShloMosaic.Tactic

variable (m : (ℓ : Loc nD τ sig) → Buf (Elt Ideal) ℓ)

variable (c : Dev nD)

theorem at_whole (y : S4096x4096.Idx) : ∃ (a b : Fin 4096), y = ix2 a b := ⟨y 0, y 1, by
  funext d; match d with | 0 => rfl | 1 => rfl⟩

/-- An element of a result by the kernel's formula, of whole arrays. -/
def form (H : Vec Ideal S4096x256 .f32) (C : Vec Ideal S4096x2 .f32) (W : Vec Ideal S3x256x256 .f32) (k : Fin 3) (r s : Fin 4096) : EReal :=
  if r = s then ((Real.log 2 : ℝ) : EReal) else
    Ideal.exp2 (cut (sq2 (C (ix2 r 0)) (C (ix2 r 1)) (C (ix2 s 0)) (C (ix2 s 1))) * decay k)
      * fit (∑ d : Fin 256, ((∑ e : Fin 256, H (ix2 r e) * W (ix3 k e d)) * q) * H (ix2 s d))

/-- Result 0, of real coordinates, by the kernel's formula. -/
theorem out0_at (hC : ∀ i, ∃ x : ℝ, (m ((c.tc : Thread nD τ).loc main_arg1) : Vec Ideal S4096x2 .f32) i = (x : EReal)) (r s : Fin 4096) :
    (res_out0 m c : Vec Ideal S4096x4096 .f32) (ix2 r s)
      = form (m ((c.tc : Thread nD τ).loc main_arg0)) (m ((c.tc : Thread nD τ).loc main_arg1)) (m ((c.tc : Thread nD τ).loc main_arg2)) 0 r s := by
  unfold res_out0 res_main_v53 form
  clean_types
  pointwise []
  rw [Alg.on_diag]
  refine ite_congr rfl (fun _ => Alg.log_two) fun _ => ?_
  obtain ⟨x, hx⟩ := hC (ix2 r 0)
  obtain ⟨x', hx'⟩ := hC (ix2 r 1)
  obtain ⟨y, hy⟩ := hC (ix2 s 0)
  obtain ⟨y', hy'⟩ := hC (ix2 s 1)
  rw [hx, hx', hy, hy']
  rw [Alg.c_three]
  exact Alg.element x x' y y' 3 (by norm_num) _ _ _ _ _ _ rfl

/-- Result 1, of real coordinates, by the kernel's formula. -/
theorem out1_at (hC : ∀ i, ∃ x : ℝ, (m ((c.tc : Thread nD τ).loc main_arg1) : Vec Ideal S4096x2 .f32) i = (x : EReal)) (r s : Fin 4096) :
    (res_out1 m c : Vec Ideal S4096x4096 .f32) (ix2 r s)
      = form (m ((c.tc : Thread nD τ).loc main_arg0)) (m ((c.tc : Thread nD τ).loc main_arg1)) (m ((c.tc : Thread nD τ).loc main_arg2)) 1 r s := by
  unfold res_out1 res_main_v82 form
  clean_types
  pointwise []
  rw [Alg.on_diag]
  refine ite_congr rfl (fun _ => Alg.log_two) fun _ => ?_
  obtain ⟨x, hx⟩ := hC (ix2 r 0)
  obtain ⟨x', hx'⟩ := hC (ix2 r 1)
  obtain ⟨y, hy⟩ := hC (ix2 s 0)
  obtain ⟨y', hy'⟩ := hC (ix2 s 1)
  rw [hx, hx', hy, hy']
  exact Alg.element x x' y y' 1 (by norm_num) _ _ _ _ _ _ rfl

/-- Result 2, of real coordinates, by the kernel's formula. -/
theorem out2_at (hC : ∀ i, ∃ x : ℝ, (m ((c.tc : Thread nD τ).loc main_arg1) : Vec Ideal S4096x2 .f32) i = (x : EReal)) (r s : Fin 4096) :
    (res_out2 m c : Vec Ideal S4096x4096 .f32) (ix2 r s)
      = form (m ((c.tc : Thread nD τ).loc main_arg0)) (m ((c.tc : Thread nD τ).loc main_arg1)) (m ((c.tc : Thread nD τ).loc main_arg2)) 2 r s := by
  unfold res_out2 res_main_v111 form
  clean_types
  pointwise []
  rw [Alg.on_diag]
  refine ite_congr rfl (fun _ => Alg.log_two) fun _ => ?_
  obtain ⟨x, hx⟩ := hC (ix2 r 0)
  obtain ⟨x', hx'⟩ := hC (ix2 r 1)
  obtain ⟨y, hy⟩ := hC (ix2 s 0)
  obtain ⟨y', hy'⟩ := hC (ix2 s 1)
  rw [hx, hx', hy, hy']
  rw [Alg.c_two]
  have e : decay 2 = ((-(((Real.log 2) * (2 / 1000))⁻¹) : ℝ) : EReal) := by
    show ((-(((Real.log 2) * (1 / 500))⁻¹) : ℝ) : EReal) = _
    norm_num
  rw [e]
  exact Alg.element x x' y y' 2 (by norm_num) _ _ _ _ _ _ rfl

end Cert.FittedIdeal.Val

end
-- ==== Proof.Pre.lean ====
/- What the precondition of sparse rows says of the coordinates. -/
module

public import proofs.«01_k».proof.Pre_sparse_rows
public import proofs.«01_k».proof.Proof.Alg
public import Idealize.ShloMosaic.Lib.Pointwise
public import Idealize.ShloMosaic.Lib.StableHlo.Predicate
public import Idealize.ShloMosaic.Lib.Tactic.CleanTypes

@[expose] public section

set_option maxRecDepth 16384

noncomputable section

namespace Cert.Pre

open Idealize.ShloMosaic Idealize.ShloMosaic.TcCoe Idealize.ShloMosaic.Tactic
open Cert.Pre_sparse_rows Cert.Pre_sparse_rows.Facts

variable [Cert.Pre_sparse_rows.Facts]

/-- The squared distance of two points. -/
abbrev gap (C : Vec Ideal S4096x2 .f32) (r s : Fin 4096) : EReal :=
  (C (ix2 r 0) - C (ix2 s 0)) * (C (ix2 r 0) - C (ix2 s 0)) + (C (ix2 r 1) - C (ix2 s 1)) * (C (ix2 r 1) - C (ix2 s 1))

/-- Two points are within the bound. -/
abbrev Near (C : Vec Ideal S4096x2 .f32) (r s : Fin 4096) : Prop := Ideal.sqrt (gap C r s) ≤ Ideal.ofBits .f32 0x3C23D70A#32

theorem both (a b : BitVec 1) : IntOp.andi a b = 1#1 ↔ a = 1#1 ∧ b = 1#1 := by
  revert a b; decide

theorem real_of (x : EReal) (h : BitVec.ofBool (decide (FloatOps.absf (F := Ideal) (φ := .f32) x < Ideal.ofBits .f32 0x7F800000#32)) = 1#1) : ∃ y : ℝ, x = (y : EReal) := by
  rw [StableHlo.Predicate.ofBool_eq_one_iff, decide_eq_true_eq, show Ideal.ofBits .f32 0x7F800000#32 = (⊤ : EReal) by simp [Ideal.ofBits, Ideal.ieee]] at h
  have hl : max x (-x) < (⊤ : EReal) := h
  rw [max_lt_iff] at hl
  refine ⟨x.toReal, (EReal.coe_toReal hl.1.ne ?_).symm⟩
  intro hb
  rw [hb] at hl
  exact absurd hl.2 (by simp)

theorem count_le (p : Fin 4096 → Prop) [DecidablePred p]
    (h : IntOp.cmpi .sle (Finset.univ.fold IntOp.addi 0#32 (fun x => BitVec.setWidth 32 (BitVec.ofBool (decide (p x))))) 20#32 = 1#1) :
    (Finset.univ.filter p).card ≤ 20 := by
  have hv : ∀ x, (BitVec.setWidth 32 (BitVec.ofBool (decide (p x)))).toNat = if p x then 1 else 0 := fun x => by
    rw [StableHlo.Predicate.toNat_setWidth_bit]
    by_cases hx : p x <;> simp [hx]
  have hs : ∑ x, (BitVec.setWidth 32 (BitVec.ofBool (decide (p x)))).toNat = (Finset.univ.filter p).card := by
    rw [Finset.sum_congr rfl fun x _ => hv x, Finset.card_filter]
  have hle : (Finset.univ.filter p).card ≤ 4096 := le_trans (Finset.card_le_univ _) (by simp)
  have ht := StableHlo.Predicate.toNat_fold_addi Finset.univ (fun x => BitVec.setWidth 32 (BitVec.ofBool (decide (p x)))) (by rw [hs]; omega)
  rw [hs] at ht
  rw [StableHlo.Predicate.sle_iff_toNat (by rw [ht]; omega) (by decide), ht] at h
  exact h

/-- The precondition, read: real coordinates, at most twenty near points, and a bound that the small number does not move across. -/
theorem read (H : Vec Ideal S4096x256 .f32) (C : Vec Ideal S4096x2 .f32) (W : Vec Ideal S3x256x256 .f32)
    (h : Cert.Pre_sparse_rows.fn (F := Ideal) H C W = fun _ => 1#1) (r s : Fin 4096) :
    (∃ x : ℝ, C (ix2 r 0) = (x : EReal)) ∧ (∃ x : ℝ, C (ix2 r 1) = (x : EReal))
      ∧ (Finset.univ.filter (Near C r)).card ≤ 20
      ∧ (Near C r s ↔ Ideal.sqrt (gap C r s + Ideal.ofBits .f32 0x0554AD2E#32) ≤ Ideal.ofBits .f32 0x3C23D70A#32) := by
  have e := congrFun h (ix2 r s)
  revert e
  unfold Cert.Pre_sparse_rows.fn Cert.Pre_sparse_rows.fn_part1
  clean_types
  pointwise []
  rw [both, both, both, StableHlo.Predicate.cmpi_eq_iff]
  rintro ⟨⟨⟨h1, h2⟩, h3⟩, h4⟩
  refine ⟨real_of _ h1, real_of _ h2, count_le (Near C r) h3, ?_⟩
  have e : ∀ b c : Bool, BitVec.ofBool b = BitVec.ofBool c → b = c := by decide
  have := e _ _ h4
  rw [decide_eq_decide] at this
  exact this

end Cert.Pre

end
-- ==== Proof.Top.lean ====
/- Keeping the twenty greatest entries of a row with at most twenty positive ones changes nothing. -/
module

public import Idealize.ShloMosaic.PureOps.Ideal
public import Idealize.ShloMosaic.Lib.SortFacts
public import Idealize.ShloMosaic.Lib.ScatterToDense.Spec
public import Idealize.ShloMosaic.Lib.LaneScatter.Pure

@[expose] public section

noncomputable section

namespace Cert.Top

open Idealize.ShloMosaic Idealize.ShloMosaic.ScatterToDense Idealize.ShloMosaic.LaneScatter

variable {n : ℕ}

/-- The position whose entry the descending sort of a row puts at `k`. -/
def place (v : Fin n → EReal) (k : Fin n) : Fin n :=
  sortedFrom (fun a b => FloatOps.cmpfTotal (F := Ideal) (φ := .f32) .gt (v a) (v b) == 1#1) k

theorem before_iff (x y : EReal) : (FloatOps.cmpfTotal (F := Ideal) (φ := .f32) .gt x y == 1#1) = decide (y < x) := by
  show (BitVec.ofBool (decide (y < x)) == 1#1) = _
  by_cases h : y < x <;> simp [h]

/-- An earlier place has no smaller entry. -/
theorem descending (v : Fin n → EReal) {i j : Fin n} (h : i < j) : v (place v j) ≤ v (place v i) := by
  have key := sortedFrom_noInversion
    (fun a b => FloatOps.cmpfTotal (F := Ideal) (φ := .f32) .gt (v a) (v b) == 1#1)
    (fun a b => FloatOps.cmpfTotal (F := Ideal) (φ := .f32) .gt (v a) (v b) == 1#1)
    (by intro a b; simp only [before_iff, decide_eq_true_eq, decide_eq_false_iff_not]; exact fun h => not_lt.mpr h.le)
    (fun _ _ h => h)
    (by
      intro a b c
      simp only [before_iff, decide_eq_false_iff_not, not_lt]
      exact fun h1 h2 => h1.trans h2)
    i j h
  exact not_lt.mp (decide_eq_false_iff_not.mp ((before_iff (v (place v j)) (v (place v i))).symm.trans key))

/-- A positive entry stands among the first `w`, if at most `w` are positive. -/
theorem early (v : Fin n → EReal) (w : ℕ) (hc : (Finset.univ.filter (fun j => 0 < v j)).card ≤ w) (k : Fin n) (hk : 0 < v (place v k)) : k.val < w := by
  by_contra hw
  have hsub : (Finset.univ.filter (fun i : Fin n => i ≤ k)).image (place v) ⊆ Finset.univ.filter (fun j => 0 < v j) := by
    intro j hj
    obtain ⟨i, hi, rfl⟩ := Finset.mem_image.mp hj
    rw [Finset.mem_filter] at hi ⊢
    refine ⟨Finset.mem_univ _, ?_⟩
    rcases hi.2.lt_or_eq with h | h
    · exact lt_of_lt_of_le hk (descending v h)
    · rw [h]; exact hk
  have hcard := Finset.card_le_card hsub
  rw [Finset.card_image_of_injective _ (show Function.Injective (place v) from sortedFrom_injective _)] at hcard
  have : (Finset.univ.filter (fun i : Fin n => i ≤ k)).card = k.val + 1 := by
    rw [show (Finset.univ.filter (fun i : Fin n => i ≤ k)) = Finset.Iic k by ext; simp]
    exact Fin.card_Iic k
  omega

/-- The mask of the kept places times the row is the row. -/
theorem kept (hn : n ≤ 2 ^ 32) (v : Fin n → EReal) (w : ℕ) (hwn : w ≤ n) (h0 : ∀ j, 0 ≤ v j) (hc : (Finset.univ.filter (fun j => 0 < v j)).card ≤ w) (j : Fin n)
    (word : ℕ → BitVec 32) (hw : ∀ k (hk : k < w), word k = BitVec.ofNat 32 (place v ⟨k, Nat.lt_of_lt_of_le hk hwn⟩).val) :
    GS word (fun _ => (1 : EReal)) 0 j.val w * v j = v j := by
  rcases (h0 j).lt_or_eq with hp | hz
  · obtain ⟨k, hk⟩ := sortedFrom_surjective (fun a b => FloatOps.cmpfTotal (F := Ideal) (φ := .f32) .gt (v a) (v b) == 1#1) j
    have hk' : place v k = j := hk
    have hkw := early v w hc k (by rw [hk']; exact hp)
    unfold GS
    rcases lastHit_cases (fun k => j.val = (word k).toNat) (fun _ => (1 : EReal)) 0 w with ⟨_, _, _, _, h⟩ | ⟨h, _⟩
    · rw [h, one_mul]
    · refine absurd ?_ (h k.val hkw)
      rw [hw _ hkw, BitVec.toNat_ofNat]
      show j.val = (place v k).val % _
      rw [hk', Nat.mod_eq_of_lt (by have := j.isLt; omega)]
  · rw [← hz, mul_zero]

end Cert.Top

end
-- ==== Proof.Post.lean ====
/- The bound on the results against the plain reference, read at one element. -/
module

public import proofs.«01_k».proof.Post_close
public import proofs.«01_k».proof.Proof.Alg
public import proofs.«01_k».proof.Proof.Top
public import Idealize.ShloMosaic.Lib.Pointwise
public import Idealize.ShloMosaic.Lib.ScatterToDense.RefScatter
public import Idealize.ShloMosaic.Lib.Tactic.CleanTypes

@[expose] public section

set_option maxRecDepth 16384

noncomputable section

namespace Cert.Post

open Idealize.ShloMosaic Idealize.ShloMosaic.TcCoe Idealize.ShloMosaic.Tactic
open Cert.Post_close Cert.Post_close.Facts

variable [Cert.Post_close.Facts]

/-- The distances. -/
def dist (C : Vec Ideal S4096x2 .f32) : Vec Ideal S4096x4096 .f32 :=
  let x : Vec Ideal S4096x1 .f32 := extractStridedSlice S4096x1 ![0, 0] C slices_S4096x2_S4096x1_0_0
  let y : Vec Ideal S4096x1 .f32 := extractStridedSlice S4096x1 ![0, 1] C slices_S4096x2_S4096x1_0_1
  let dx : Vec Ideal S4096x4096 .f32 := subf (F := Ideal) (φ := .f32) (broadcastInDim S4096x4096 ![0, 1] bcast_S4096x1_S4096x4096_0_1 x)
    (broadcastInDim S4096x4096 ![0, 1] bcast_S1x4096_S4096x4096_0_1 (transpose S1x4096 [1, 0] x transposes_S4096x1_S1x4096_1_0))
  let dy : Vec Ideal S4096x4096 .f32 := subf (F := Ideal) (φ := .f32) (broadcastInDim S4096x4096 ![0, 1] bcast_S4096x1_S4096x4096_0_1 y)
    (broadcastInDim S4096x4096 ![0, 1] bcast_S1x4096_S4096x4096_0_1 (transpose S1x4096 [1, 0] y transposes_S4096x1_S1x4096_1_0))
  Host.sqrt (F := Ideal) (φ := .f32) (addf (F := Ideal) (φ := .f32) (mulf (F := Ideal) (φ := .f32) dx dx) (mulf (F := Ideal) (φ := .f32) dy dy))

/-- The diagonal. -/
def eye : IVec S4096x4096 1 :=
  cmpi .eq (broadcastInDim S4096x4096 ![0, 1] bcast_S4096x1_S4096x4096_0_1 (broadcastInDim S4096x1 ![0] bcast_S4096_S4096x1_0 (iotaInDim S4096 32 0)))
    (broadcastInDim S4096x4096 ![0, 1] bcast_S1x4096_S4096x4096_0_1 (broadcastInDim S1x4096 ![1] bcast_S4096_S1x4096_1 (iotaInDim S4096 32 0)))

/-- The softened pairing of a layer's weights. -/
def soft (H : Vec Ideal S4096x256 .f32) (w : Vec Ideal S1x256x256 .f32) : Vec Ideal S4096x4096 .f32 :=
  Host.tanh (F := Ideal) (φ := .f32) (Host.divf (F := Ideal) (φ := .f32)
    (Host.dotGeneral (F := Ideal) (φ₁ := .f32) (φ₂ := .f32) dot_S4096x256_S256x4096_S4096x4096_1_0_0_1_n_n none
      (Host.dotGeneral (F := Ideal) (φ₁ := .f32) (φ₂ := .f32) dot_S4096x256_S256x256_S4096x256_1_0_0_1_n_n none H (shapeCast S256x256 w shapeCasts_S1x256x256_S256x256))
      (transpose S256x4096 [1, 0] H transposes_S4096x256_S256x4096_1_0))
    (broadcastInDim S4096x4096 ![] bcast_S_S4096x4096 (constant (F := Ideal) S_ .f32 0x40800000#32)))

/-- A layer's adjacency before the greatest entries are kept. -/
def prior (H : Vec Ideal S4096x256 .f32) (C : Vec Ideal S4096x2 .f32) (w : Vec Ideal S1x256x256 .f32) (l : Vec Ideal S_ .f32) : Vec Ideal S4096x4096 .f32 :=
  mulf (F := Ideal) (φ := .f32)
    (mulf (F := Ideal) (φ := .f32) (Host.exp (F := Ideal) (φ := .f32) (Host.divf (F := Ideal) (φ := .f32) (Host.negf (F := Ideal) (φ := .f32) (dist C)) (broadcastInDim S4096x4096 ![] bcast_S_S4096x4096 l)))
      (uitofp (F := Ideal) .f32 (cmpf (F := Ideal) (φ := .f32) .ole (dist C) (broadcastInDim S4096x4096 ![] bcast_S_S4096x4096 (constant (F := Ideal) S_ .f32 0x3C23D70A#32)))))
    (fn_softplus (F := Ideal) (subf (F := Ideal) (φ := .f32) (soft H w) (fn_where (F := Ideal) eye (soft H w) (constant (F := Ideal) S_ .f32 0x00000000#32))))

/-- The row numbers. -/
def rows : IVec S4096x1 32 := broadcastInDim S4096x1 ![0] bcast_S4096_S4096x1_0 (iotaInDim S4096 32 0)

/-- The places of the greatest entries of the rows. -/
def best (x : Vec Ideal S4096x4096 .f32) : IVec S4096x20 32 :=
  (Host.topK S4096x20 1 (FloatOps.cmpfTotal (F := Ideal) (φ := .f32) .gt) x sliceFits_S4096x4096_S4096x20).2

/-- The places at which the mask is set. -/
def table (b : IVec S4096x20 32) : IVec S4096x20x2 32 :=
  concatenate S4096x20x2 2
    [⟨S4096x20x1, broadcastInDim S4096x20x1 ![0, 1] bcast_S4096x20_S4096x20x1_0_1 (broadcastInDim S4096x20 ![0, 1] bcast_S4096x1_S4096x20_0_1
        (select (cmpi .slt rows (broadcastInDim S4096x1 ![] bcast_S_S4096x1 (constantI S_ 32 0#32))) (addi rows (broadcastInDim S4096x1 ![] bcast_S_S4096x1 (constantI S_ 32 4096#32))) rows))⟩,
      ⟨S4096x20x1, broadcastInDim S4096x20x1 ![0, 1] bcast_S4096x20_S4096x20x1_0_1
        (select (cmpi .slt b (broadcastInDim S4096x20 ![] bcast_S_S4096x20 (constantI S_ 32 0#32))) (addi b (broadcastInDim S4096x20 ![] bcast_S_S4096x20 (constantI S_ 32 4096#32))) b)⟩]
    concatenates_S4096x20x1_S4096x20x1_S4096x20x2_d2

/-- The array with its greatest entries kept. -/
def keep (x : Vec Ideal S4096x4096 .f32) : Vec Ideal S4096x4096 .f32 :=
  mulf (F := Ideal) (φ := .f32)
    (Host.scatter scatter_S4096x4096_S4096x20x2_S4096x20_n_01_01_2 (fun _ b => b)
      (broadcastInDim S4096x4096 ![] bcast_S_S4096x4096 (constant (F := Ideal) S_ .f32 0x00000000#32)) (table (best x))
      (broadcastInDim S4096x20 ![] bcast_S_S4096x20 (constant (F := Ideal) S_ .f32 0x3F800000#32))) x

/-- The bound on an array against another. -/
def near (o r : Vec Ideal S4096x4096 .f32) : IVec S4096x4096 1 :=
  cmpf (F := Ideal) (φ := .f32) .ole (Host.absf (F := Ideal) (φ := .f32) (subf (F := Ideal) (φ := .f32) o r)) (broadcastInDim S4096x4096 ![] bcast_S_S4096x4096 (constant (F := Ideal) S_ .f32 0x3B23D70A#32))

/-- The printed bound, by these arrays. -/
theorem parts (H : Vec Ideal S4096x256 .f32) (C : Vec Ideal S4096x2 .f32) (W : Vec Ideal S3x256x256 .f32) (o0 o1 o2 : Vec Ideal S4096x4096 .f32) :
    Cert.Post_close.fn (F := Ideal) H C W o0 o1 o2
      = (near o0 (keep (prior H C (extractStridedSlice S1x256x256 ![0, 0, 0] W slices_S3x256x256_S1x256x256_0_0_0) (constant (F := Ideal) S_ .f32 0x3B449BA6#32))),
        near o1 (keep (prior H C (extractStridedSlice S1x256x256 ![1, 0, 0] W slices_S3x256x256_S1x256x256_1_0_0) (constant (F := Ideal) S_ .f32 0x3A83126F#32))),
        near o2 (keep (prior H C (extractStridedSlice S1x256x256 ![2, 0, 0] W slices_S3x256x256_S1x256x256_2_0_0) (constant (F := Ideal) S_ .f32 0x3B03126F#32)))) := rfl

theorem near_at (o x : Vec Ideal S4096x4096 .f32) (r s : Fin 4096) :
    near o x (ix2 r s) = BitVec.ofBool (decide (FloatOps.absf (F := Ideal) (φ := .f32) (o (ix2 r s) - x (ix2 r s)) ≤ Ideal.ofBits .f32 0x3B23D70A#32)) := by
  unfold near
  pointwise []

/-- The softplus, as it is printed, of a number. -/
abbrev sp (u : EReal) : EReal := max u 0 + Ideal.log1p (Ideal.exp (-FloatOps.absf (F := Ideal) (φ := .f32) u))

/-- The quotient of the printed pairing. -/
abbrev score (H : Vec Ideal S4096x256 .f32) (w : Vec Ideal S1x256x256 .f32) (r s : Fin 4096) : EReal :=
  Ideal.div (∑ d : Fin 256, (∑ e : Fin 256, H (ix2 r e) * w (ix3 0 e d)) * H (ix2 s d)) (Ideal.ofBits .f32 0x40800000#32)

theorem prior_at (H : Vec Ideal S4096x256 .f32) (C : Vec Ideal S4096x2 .f32) (w : Vec Ideal S1x256x256 .f32) (l : Vec Ideal S_ .f32) (r s : Fin 4096) :
    prior H C w l (ix2 r s) =
      Ideal.exp (Ideal.div (-Ideal.sqrt ((C (ix2 r 0) - C (ix2 s 0)) * (C (ix2 r 0) - C (ix2 s 0)) + (C (ix2 r 1) - C (ix2 s 1)) * (C (ix2 r 1) - C (ix2 s 1)))) (l ix0))
        * FloatOps.uitofp (F := Ideal) .f32 (BitVec.ofBool (decide (Ideal.sqrt ((C (ix2 r 0) - C (ix2 s 0)) * (C (ix2 r 0) - C (ix2 s 0)) + (C (ix2 r 1) - C (ix2 s 1)) * (C (ix2 r 1) - C (ix2 s 1))) ≤ Ideal.ofBits .f32 0x3C23D70A#32)))
        * sp (Ideal.tanh (score H w r s) - (if r = s then Ideal.tanh (score H w r s) else 0)) := by
  unfold prior dist soft eye fn_softplus fn_where
  clean_types
  pointwise []
  have z : (id (constant (F := Ideal) S_ .f32 0x00000000#32) ix0 : EReal) = 0 := by
    show Ideal.ofBits .f32 0x00000000#32 = 0
    simp [Ideal.ofBits, Ideal.ieee]
  rw [Alg.on_diag, if_neg (fun h => h rfl), z]

theorem table_row (b : IVec S4096x20 32) (r : Fin 4096) (k : Fin 20) : table b (ix3 r k 0) = BitVec.ofNat 32 r.val := by
  unfold table rows
  clean_types
  pointwise []
  exact Routing.wrap_of_lt _ _ (by have := r.isLt; rw [BitVec.toNat_ofNat]; omega)

theorem best_at (x : Vec Ideal S4096x4096 .f32) (r : Fin 4096) (k : Fin 20) :
    best x (ix2 r k) = BitVec.ofNat 32 (Top.place (fun s => x (ix2 r s)) ⟨k.val, by have := k.isLt; omega⟩).val := by
  have e : ∀ (a b : Fin 4096), (ix2 r a : S4096x4096.Idx).along 1 b = ix2 r b := fun a b => by
    funext d
    match d with
    | 0 => rfl
    | 1 => rfl
  unfold best Host.topK Host.sort2 Top.place
  pointwise []
  simp only [e]
  rfl

theorem table_col (x : Vec Ideal S4096x4096 .f32) (r : Fin 4096) (k : Fin 20) :
    table (best x) (ix3 r k 1) = BitVec.ofNat 32 (Top.place (fun s => x (ix2 r s)) ⟨k.val, by have := k.isLt; omega⟩).val := by
  rw [← best_at]
  have hp := (Top.place (fun s => x (ix2 r s)) ⟨k.val, by have := k.isLt; omega⟩).isLt
  have hb := congrArg BitVec.toNat (best_at x r k)
  rw [BitVec.toNat_ofNat, Nat.mod_eq_of_lt (by omega)] at hb
  generalize best x = b at hb ⊢
  unfold table rows
  clean_types
  pointwise []
  exact Routing.wrap_of_lt _ _ (by rw [hb]; omega)

/-- Of a row of nonnegative entries, at most twenty of them positive, every entry is kept. -/
theorem keep_at (x : Vec Ideal S4096x4096 .f32) (r : Fin 4096) (h0 : ∀ s, 0 ≤ x (ix2 r s)) (hc : (Finset.univ.filter (fun s => 0 < x (ix2 r s))).card ≤ 20) (s : Fin 4096) :
    keep x (ix2 r s) = x (ix2 r s) := by
  unfold keep
  show Host.scatter scatter_S4096x4096_S4096x20x2_S4096x20_n_01_01_2 (fun _ b => b)
      (broadcastInDim S4096x4096 ![] bcast_S_S4096x4096 (constant (F := Ideal) S_ .f32 0x00000000#32)) (table (best x))
      (broadcastInDim S4096x20 ![] bcast_S_S4096x20 (constant (F := Ideal) S_ .f32 0x3F800000#32)) (ix2 r s) * x (ix2 r s) = x (ix2 r s)
  have one : ∀ (i : Fin 4096) (k : Fin 20), (broadcastInDim S4096x20 ![] bcast_S_S4096x20 (constant (F := Ideal) S_ .f32 0x3F800000#32)) (ValueIdx.ix2 i k) = (1 : EReal) := fun i k => by
    rw [← ix2_eq_valueIdx]
    pointwise []
  have zero : (broadcastInDim S4096x4096 ![] bcast_S_S4096x4096 (constant (F := Ideal) S_ .f32 0x00000000#32)) (ValueIdx.ix2 r s) = (0 : EReal) := by
    rw [← ix2_eq_valueIdx]
    pointwise []
  rw [ix2_eq_valueIdx r s, ScatterToDense.scatter_eq_GS scatter_S4096x4096_S4096x20x2_S4096x20_n_01_01_2 rfl rfl rfl (by norm_num) (by norm_num) _ (table (best x)) _
    (fun i k => if h : k < 20 then BitVec.ofNat 32 (Top.place (fun s => x (ix2 i s)) ⟨k, by omega⟩).val else 0#32) (fun _ _ => (1 : EReal))
    (fun i k => (congrArg _ (ix3_eq_valueIdx i k 0).symm).trans (table_row _ i k))
    (fun i k => (congrArg _ (ix3_eq_valueIdx i k 1).symm).trans ((table_col x i k).trans (by rw [dif_pos k.isLt])))
    one, zero, ← ix2_eq_valueIdx]
  exact Top.kept (by norm_num) (fun s => x (ix2 r s)) 20 (by norm_num) h0 hc s _ (fun k hk => dif_pos hk)

end Cert.Post

end
-- ==== Proof.Walk.lean ====
/- The check of the fit over a grid, in natural numbers: what one step computes and what the whole check says.
   A number `v` below stands for the real `v / 2^40`. -/
module

public import Mathlib.Data.Nat.Basic

@[expose] public section

namespace Cert.Walk

/-- The number of steps of the grid of `[0, 1]`. -/
def N : ℕ := 4000
/-- The scale of the fixed-point numbers. -/
def S : ℕ := 2 ^ 40
/-- The exponent's scale, `An / Ad`. -/
def An : ℕ := 8766095
def Ad : ℕ := 8388608
/-- Bounds of the factor that the fit's shift gives. -/
def CL : ℕ := 673587000000
def CH : ℕ := 673599000000
/-- The fit's value at `-∞`. -/
def K : ℕ := 5255659 * 2 ^ 16
/-- The bound of the error. -/
def e : ℕ := 2693800000

/-- A function of a number, the number computed first. -/
def force {α : Type} (x : ℕ) (k : ℕ → α) : α := match x with
  | 0 => k 0
  | n + 1 => k (n + 1)

theorem force_eq {α : Type} (x : ℕ) (k : ℕ → α) : force x k = k x := by cases x <;> rfl

/-- What a step from point `i` to the next one has to satisfy: the bounds `pl`, `ph` of the power, `ul`, `uh` of the
    exponential and `fl`, `fh` of the softplus at `i`, the primed ones at `i + 1`. -/
def next (i pl ph ul uh fl fh pl' ph' ul' uh' fl' fh' : ℕ) : Bool :=
  Nat.ble (pl' * (Ad * ((N - i - 1) * (N + i)))) (pl * (Ad * ((N - i - 1) * (N + i)) + An * (2 * N)))
  && Nat.ble (ph * (Ad * ((N + i + 1) * (N - i))) + ph' * (An * (2 * N))) (ph' * (Ad * ((N + i + 1) * (N - i))))
  && Nat.ble (An * (2 * N) + 1) (Ad * ((N + i + 1) * (N - i)))
  && Nat.ble (ul' * (2 * N * N)) (ul * (2 * N * N + 2 * N + 1))
  && Nat.ble (uh * (18 * N * N * N + 18 * N * N + 9 * N + 4)) (uh' * (18 * N * N * N))
  && Nat.ble (fl' * ((S + ul') * (2 * N * N + 2 * N + 1))) (fl * ((S + ul') * (2 * N * N + 2 * N + 1)) + S * ul' * (2 * N + 1))
  && Nat.ble (fh * ((S + uh) * (18 * N * N * N)) + S * uh * (18 * N * N + 9 * N + 4)) (fh' * ((S + uh) * (18 * N * N * N)))
  -- the fit at positive arguments, above and below
  && Nat.ble (fh' * (S * S + CL * pl)) ((K + e) * (S * S + CL * pl) + S * (CL * pl))
  && Nat.ble (K * (S * S + CH * ph') + S * (CH * ph')) ((fl + e) * (S * S + CH * ph'))
  -- the fit at negative arguments
  && Nat.ble (N * fh * (CL + ph')) ((N * (K + e) + S * i) * (CL + ph') + N * S * CL)
  && Nat.ble ((N * K + S * (i + 1)) * (CH + pl) + N * S * CH) (N * (fl' + e) * (CH + pl))

/-- The last step, up to argument one. -/
def last (i pl ul uh fl fh ul' fl' fh' : ℕ) : Bool :=
  Nat.ble (ul' * (2 * N * N)) (ul * (2 * N * N + 2 * N + 1))
  && Nat.ble (fl' * ((S + ul') * (2 * N * N + 2 * N + 1))) (fl * ((S + ul') * (2 * N * N + 2 * N + 1)) + S * ul' * (2 * N + 1))
  && Nat.ble (fh * ((S + uh) * (18 * N * N * N)) + S * uh * (18 * N * N + 9 * N + 4)) (fh' * ((S + uh) * (18 * N * N * N)))
  && Nat.ble (fh' * (S * S + CL * pl)) ((K + e) * (S * S + CL * pl) + S * (CL * pl))
  && Nat.ble (K + S) (fl + e)
  && Nat.ble (N * fh) (N * (K + e) + S * i)
  && Nat.ble ((N * K + S * (i + 1)) * (CH + pl) + N * S * CH) (N * (fl' + e) * (CH + pl))

/-- The check of the points from `i` on, `k` steps and the last one. -/
def walk : ℕ → ℕ → ℕ → ℕ → ℕ → ℕ → ℕ → ℕ → Bool
  | 0, i, pl, _, ul, uh, fl, fh =>
    force (ul * (2 * N * N + 2 * N + 1) / (2 * N * N)) fun ul' =>
    force (fl + S * ul' * (2 * N + 1) / ((S + ul') * (2 * N * N + 2 * N + 1))) fun fl' =>
    force (fh + S * uh * (18 * N * N + 9 * N + 4) / ((S + uh) * (18 * N * N * N)) + 1) fun fh' =>
    last i pl ul uh fl fh ul' fl' fh'
  | k + 1, i, pl, ph, ul, uh, fl, fh =>
    force (pl * (Ad * ((N - i - 1) * (N + i)) + An * (2 * N)) / (Ad * ((N - i - 1) * (N + i)))) fun pl' =>
    force (ph * (Ad * ((N + i + 1) * (N - i))) / (Ad * ((N + i + 1) * (N - i)) - An * (2 * N)) + 1) fun ph' =>
    force (ul * (2 * N * N + 2 * N + 1) / (2 * N * N)) fun ul' =>
    force (uh * (18 * N * N * N + 18 * N * N + 9 * N + 4) / (18 * N * N * N) + 1) fun uh' =>
    force (fl + S * ul' * (2 * N + 1) / ((S + ul') * (2 * N * N + 2 * N + 1))) fun fl' =>
    force (fh + S * uh * (18 * N * N + 9 * N + 4) / ((S + uh) * (18 * N * N * N)) + 1) fun fh' =>
    force (i + 1) fun i' =>
    next i pl ph ul uh fl fh pl' ph' ul' uh' fl' fh' && walk k i' pl' ph' ul' uh' fl' fh'

set_option maxRecDepth 100000 in
/-- The check holds from the start. -/
theorem checked : walk 3999 0 S S S S 762123384000 762123386000 = true := by decide +kernel

end Cert.Walk
-- ==== Proof.Fit.lean ====
/- The fit against the softplus of the hyperbolic tangent: the bound of the error, for every real argument. -/
module

public import proofs.«01_k».proof.Proof.Walk
public import Mathlib.Analysis.SpecialFunctions.Pow.Real
public import Mathlib.Analysis.Convex.SpecificFunctions.Basic
public import Mathlib.Analysis.Complex.Exponential

@[expose] public section

namespace Cert.Fit

open Cert.Walk

/-- The logistic function, of an exponential. -/
noncomputable def sg (x : ℝ) : ℝ := x / (1 + x)

/-- The softplus. -/
noncomputable def F (t : ℝ) : ℝ := Real.log (1 + Real.exp t)

theorem sg_mono {x y : ℝ} (hx : 0 ≤ x) (h : x ≤ y) : sg x ≤ sg y := by
  unfold sg
  rw [div_le_div_iff₀ (by linarith) (by linarith)]
  nlinarith

theorem sg_nonneg {x : ℝ} (hx : 0 ≤ x) : 0 ≤ sg x := div_nonneg hx (by linarith)

theorem sg_le_one {x : ℝ} (hx : 0 ≤ x) : sg x ≤ 1 := by
  unfold sg
  rw [div_le_one (by linarith)]; linarith

theorem F_mono {x y : ℝ} (h : x ≤ y) : F x ≤ F y := by
  unfold F
  have := Real.exp_pos x
  have := Real.exp_le_exp.mpr h
  exact Real.log_le_log (by linarith) (by linarith)

/-- The softplus of the negated argument. -/
theorem F_neg (t : ℝ) : F (-t) = F t - t := by
  unfold F
  have h : 1 + Real.exp (-t) = (1 + Real.exp t) * Real.exp (-t) := by
    rw [add_mul, ← Real.exp_add]; simp [add_comm]
  have := Real.exp_pos t
  rw [h, Real.log_mul (by linarith) (Real.exp_pos _).ne', Real.log_exp]; ring

/-- A step of the softplus, bounded above. -/
theorem F_up (t h : ℝ) : F (t + h) ≤ F t + sg (Real.exp t) * (Real.exp h - 1) := by
  unfold F sg
  have ht := Real.exp_pos t
  have hh := Real.exp_pos h
  have e : 1 + Real.exp (t + h) = (1 + Real.exp t) * (1 + Real.exp t / (1 + Real.exp t) * (Real.exp h - 1)) := by
    rw [Real.exp_add]; field_simp; ring
  have hp : 0 < 1 + Real.exp t / (1 + Real.exp t) * (Real.exp h - 1) := by
    have : 0 < 1 + Real.exp (t + h) := by have := Real.exp_pos (t + h); linarith
    rw [e] at this
    exact (mul_pos_iff_of_pos_left (by linarith)).1 this
  rw [e, Real.log_mul (by linarith) hp.ne']
  have := Real.log_le_sub_one_of_pos hp
  linarith

/-- A step of the softplus, bounded below. -/
theorem F_lo (t h : ℝ) : F t + sg (Real.exp (t + h)) * (1 - Real.exp (-h)) ≤ F (t + h) := by
  have := F_up (t + h) (-h)
  rw [show t + h + -h = t by ring] at this
  linarith

theorem pow_lower (n i a : ℝ) (h0 : 0 ≤ i) (h1 : i + 1 < n) (ha : 1 ≤ a) :
    ((n + i) / (n - i)) ^ a * (1 + a * (2 * n / ((n - i - 1) * (n + i)))) ≤ ((n + i + 1) / (n - i - 1)) ^ a := by
  have p1 : 0 < n - i - 1 := by linarith
  have p2 : 0 < n + i := by linarith
  have p3 : 0 < n - i := by linarith
  have e : (n + i + 1) / (n - i - 1) = (n + i) / (n - i) * (1 + 2 * n / ((n - i - 1) * (n + i))) := by
    field_simp; ring
  have hs : 0 ≤ 2 * n / ((n - i - 1) * (n + i)) := by have : 0 < n := by linarith
                                                      positivity
  rw [e, Real.mul_rpow (by positivity) (by positivity)]
  exact mul_le_mul_of_nonneg_left (one_add_mul_self_le_rpow_one_add (by linarith) ha) (by positivity)

theorem pow_upper (n i a : ℝ) (h0 : 0 ≤ i) (h1 : i + 1 < n) (ha : 1 ≤ a) :
    ((n + i + 1) / (n - i - 1)) ^ a * (1 - a * (2 * n / ((n + i + 1) * (n - i)))) ≤ ((n + i) / (n - i)) ^ a := by
  have p1 : 0 < n - i - 1 := by linarith
  have p2 : 0 < n + i := by linarith
  have p3 : 0 < n - i := by linarith
  have p4 : 0 < n + i + 1 := by linarith
  have e : (n + i) / (n - i) = (n + i + 1) / (n - i - 1) * (1 + -(2 * n / ((n + i + 1) * (n - i)))) := by
    field_simp; ring
  have hs : 1 + -(2 * n / ((n + i + 1) * (n - i))) = (n + i) * (n - i - 1) / ((n + i + 1) * (n - i)) := by
    field_simp; ring
  have hp : 0 ≤ 1 + -(2 * n / ((n + i + 1) * (n - i))) := by rw [hs]; positivity
  rw [e, Real.mul_rpow (by positivity) hp]
  refine mul_le_mul_of_nonneg_left ?_ (by positivity)
  have := one_add_mul_self_le_rpow_one_add (s := -(2 * n / ((n + i + 1) * (n - i)))) (by linarith) ha
  linarith

/-- The factor of the argument in the fit. -/
noncomputable def a : ℝ := (An : ℝ) / Ad
/-- The factor that the shift gives. -/
noncomputable def c : ℝ := Real.exp (-(16441672 / 33554432))
/-- The power at an argument of the softplus. -/
noncomputable def P (t : ℝ) : ℝ := ((1 + t) / (1 - t)) ^ a

theorem one_le_a : 1 ≤ a := by unfold a An Ad; norm_num
theorem S_pos : (0 : ℝ) < S := by norm_num [S]
theorem N_pos : (0 : ℝ) < N := by norm_num [N]

/-- The fit is near the softplus at `t` and at `-t`. -/
structure Good (t : ℝ) : Prop where
  up : F t ≤ K / S + sg (c * P t) + e / S
  lo : K / S + sg (c * P t) ≤ F t + e / S
  nup : F (-t) ≤ K / S + sg (c / P t) + e / S
  nlo : K / S + sg (c / P t) ≤ F (-t) + e / S

/-- What the numbers at point `i` bound. -/
structure Inv (i pl ph ul uh fl fh : ℕ) : Prop where
  p1 : (pl : ℝ) / S ≤ P (i / N)
  p2 : P (i / N) ≤ ph / S
  u1 : (ul : ℝ) / S ≤ Real.exp (i / N)
  u2 : Real.exp (i / N) ≤ uh / S
  f1 : (fl : ℝ) / S ≤ F (i / N)
  f2 : F (i / N) ≤ fh / S

theorem P_grid (n i : ℝ) (h0 : 0 < n) : (1 + i / n) / (1 - i / n) = (n + i) / (n - i) := by
  rw [show 1 + i / n = (n + i) / n by field_simp, show 1 - i / n = (n - i) / n by field_simp, div_div_div_cancel_right₀ h0.ne']

theorem P_pos {t : ℝ} (h0 : 0 ≤ t) (h1 : t < 1) : 0 < P t := by
  unfold P
  exact Real.rpow_pos_of_pos (div_pos (by linarith) (by linarith)) _

theorem P_mono {s t : ℝ} (h0 : 0 ≤ s) (h : s ≤ t) (h1 : t < 1) : P s ≤ P t := by
  unfold P
  refine Real.rpow_le_rpow (div_nonneg (by linarith) (by linarith)) ?_ (by have := one_le_a; linarith)
  rw [div_le_div_iff₀ (by linarith) (by linarith)]
  nlinarith

theorem eh_lo : ((2 * N * N + 2 * N + 1 : ℕ) : ℝ) / ((2 * N * N : ℕ) : ℝ) ≤ Real.exp (1 / N) := by
  have := Real.quadratic_le_exp_of_nonneg (x := 1 / (N : ℝ)) (by positivity)
  refine le_trans (le_of_eq ?_) this
  have := N_pos
  push_cast
  field_simp

theorem eh_hi : Real.exp (1 / N) ≤ ((18 * N * N * N + 18 * N * N + 9 * N + 4 : ℕ) : ℝ) / ((18 * N * N * N : ℕ) : ℝ) := by
  have := Real.exp_bound' (x := 1 / (N : ℝ)) (by positivity) (by norm_num [N]) (n := 3) (by norm_num)
  refine le_trans this (le_of_eq ?_)
  have := N_pos
  simp [Finset.sum_range_succ, Nat.factorial]
  field_simp
  ring

theorem ec_hi : Real.exp (16441672 / 33554432) ≤ (S : ℝ) / CL := by
  refine le_trans (Real.exp_bound' (by norm_num) (by norm_num) (n := 8) (by norm_num)) ?_
  simp only [Finset.sum_range_succ, Finset.sum_range_zero, Nat.factorial]
  norm_num [S, CL]

theorem ec_lo : (S : ℝ) / CH ≤ Real.exp (16441672 / 33554432) := by
  refine le_trans ?_ (Real.sum_le_exp_of_nonneg (by norm_num) 8)
  simp only [Finset.sum_range_succ, Finset.sum_range_zero, Nat.factorial]
  norm_num [S, CH]

theorem c_lo : (CL : ℝ) / S ≤ c := by
  unfold c
  rw [Real.exp_neg, show (CL : ℝ) / S = ((S : ℝ) / CL)⁻¹ from (inv_div _ _).symm]
  exact inv_anti₀ (Real.exp_pos _) ec_hi

theorem c_hi : c ≤ (CH : ℝ) / S := by
  unfold c
  rw [Real.exp_neg, show (CH : ℝ) / S = ((S : ℝ) / CH)⁻¹ from (inv_div _ _).symm]
  exact inv_anti₀ (by norm_num [S, CH]) ec_lo

theorem two_lo : ((762123384000 : ℕ) : ℝ) / S ≤ Real.log 2 := by
  rw [Real.le_log_iff_exp_le (by norm_num)]
  refine le_trans (Real.exp_bound' (by norm_num [S]) (by norm_num [S]) (n := 12) (by norm_num)) ?_
  simp only [Finset.sum_range_succ, Finset.sum_range_zero, Nat.factorial]
  norm_num [S]

theorem two_hi : Real.log 2 ≤ ((762123386000 : ℕ) : ℝ) / S := by
  rw [Real.log_le_iff_le_exp (by norm_num)]
  refine le_trans ?_ (Real.sum_le_exp_of_nonneg (by norm_num [S]) 12)
  simp only [Finset.sum_range_succ, Finset.sum_range_zero, Nat.factorial]
  norm_num [S]

theorem start : Inv 0 S S S S 762123384000 762123386000 := by
  have s0 := S_pos.ne'
  have hP : P ((0 : ℕ) / N) = 1 := by simp [P]
  have hF : F ((0 : ℕ) / N) = Real.log 2 := by simp [F]; norm_num
  constructor
  · rw [hP, div_self s0]
  · rw [hP, div_self s0]
  · rw [div_self s0]; simp
  · rw [div_self s0]; simp
  · rw [hF]; exact two_lo
  · rw [hF]; exact two_hi

/-! ## One step -/

theorem f_step_lo (i fl ul' fl' : ℕ) (f1 : (fl : ℝ) / S ≤ F (i / N)) (u1 : (ul' : ℝ) / S ≤ Real.exp ((i + 1 : ℕ) / N))
    (h : fl' * ((S + ul') * (2 * N * N + 2 * N + 1)) ≤ fl * ((S + ul') * (2 * N * N + 2 * N + 1)) + S * ul' * (2 * N + 1)) :
    (fl' : ℝ) / S ≤ F ((i + 1 : ℕ) / N) := by
  have hS := S_pos
  have hN := N_pos
  have hu : (0 : ℝ) ≤ ul' := Nat.cast_nonneg _
  have e1 : (((i + 1 : ℕ) : ℝ)) / N = i / N + 1 / N := by push_cast; field_simp
  have h' : (fl' : ℝ) * ((S + ul') * (2 * N * N + 2 * N + 1)) ≤ fl * ((S + ul') * (2 * N * N + 2 * N + 1)) + S * ul' * (2 * N + 1) := by exact_mod_cast h
  have hq := eh_lo
  push_cast at hq
  have hinv : Real.exp (-(1 / N : ℝ)) ≤ 2 * N * N / (2 * N * N + 2 * N + 1) := by
    rw [Real.exp_neg, show (2 * (N : ℝ) * N / (2 * N * N + 2 * N + 1)) = ((2 * (N : ℝ) * N + 2 * N + 1) / (2 * N * N))⁻¹ from (inv_div _ _).symm]
    exact inv_anti₀ (by positivity) hq
  have hs : sg (ul' / S) ≤ sg (Real.exp ((i + 1 : ℕ) / N)) := sg_mono (by positivity) u1
  have h0 : 0 ≤ sg ((ul' : ℝ) / S) := sg_nonneg (by positivity)
  have hF := F_lo (i / N) (1 / N)
  rw [← e1] at hF
  have hm : sg ((ul' : ℝ) / S) * (1 - 2 * N * N / (2 * N * N + 2 * N + 1)) ≤ sg (Real.exp ((i + 1 : ℕ) / N)) * (1 - Real.exp (-(1 / N))) :=
    mul_le_mul hs (by linarith) (by rw [sub_nonneg, div_le_one (by positivity)]; nlinarith) (h0.trans hs)
  refine le_trans ?_ (le_trans (add_le_add f1 hm) hF)
  rw [show (fl : ℝ) / S + sg ((ul' : ℝ) / S) * (1 - 2 * N * N / (2 * N * N + 2 * N + 1))
      = (fl * ((S + ul') * (2 * N * N + 2 * N + 1)) + S * ul' * (2 * N + 1)) / (S * ((S + ul') * (2 * N * N + 2 * N + 1))) by
        unfold sg; field_simp; ring]
  rw [div_le_div_iff₀ hS (by positivity)]
  nlinarith

theorem f_step_hi (i fh uh fh' : ℕ) (f2 : F (i / N) ≤ (fh : ℝ) / S) (u2 : Real.exp (i / N) ≤ (uh : ℝ) / S)
    (h : fh * ((S + uh) * (18 * N * N * N)) + S * uh * (18 * N * N + 9 * N + 4) ≤ fh' * ((S + uh) * (18 * N * N * N))) :
    F ((i + 1 : ℕ) / N) ≤ (fh' : ℝ) / S := by
  have hS := S_pos
  have hN := N_pos
  have hu : (0 : ℝ) ≤ uh := Nat.cast_nonneg _
  have e1 : (((i + 1 : ℕ) : ℝ)) / N = i / N + 1 / N := by push_cast; field_simp
  have h' : (fh : ℝ) * ((S + uh) * (18 * N * N * N)) + S * uh * (18 * N * N + 9 * N + 4) ≤ fh' * ((S + uh) * (18 * N * N * N)) := by exact_mod_cast h
  have hq := eh_hi
  push_cast at hq
  have hs : sg (Real.exp (i / N)) ≤ sg (uh / S) := sg_mono (Real.exp_pos _).le u2
  have hF := F_up (i / N) (1 / N)
  rw [← e1] at hF
  have h1 : 1 ≤ Real.exp (1 / N : ℝ) := Real.one_le_exp (by positivity)
  have hm : sg (Real.exp (i / N)) * (Real.exp (1 / N) - 1) ≤ sg (uh / S) * ((18 * N * N * N + 18 * N * N + 9 * N + 4) / (18 * N * N * N) - 1) :=
    mul_le_mul hs (by linarith) (by linarith) (sg_nonneg (by positivity))
  refine le_trans hF (le_trans (add_le_add f2 hm) ?_)
  rw [show (fh : ℝ) / S + sg (uh / S) * ((18 * N * N * N + 18 * N * N + 9 * N + 4) / (18 * N * N * N) - 1)
      = (fh * ((S + uh) * (18 * N * N * N)) + S * uh * (18 * N * N + 9 * N + 4)) / (S * ((S + uh) * (18 * N * N * N))) by
        unfold sg; field_simp; ring]
  rw [div_le_div_iff₀ (by positivity) hS]
  nlinarith

theorem u_step_lo (i ul ul' : ℕ) (u1 : (ul : ℝ) / S ≤ Real.exp (i / N)) (h : ul' * (2 * N * N) ≤ ul * (2 * N * N + 2 * N + 1)) :
    (ul' : ℝ) / S ≤ Real.exp ((i + 1 : ℕ) / N) := by
  have hS := S_pos
  have hN := N_pos
  have h' : (ul' : ℝ) * (2 * N * N) ≤ ul * (2 * N * N + 2 * N + 1) := by exact_mod_cast h
  have hq := eh_lo
  push_cast at hq
  have e1 : (((i + 1 : ℕ) : ℝ)) / N = i / N + 1 / N := by push_cast; field_simp
  rw [e1, Real.exp_add]
  refine le_trans ?_ (mul_le_mul u1 hq (by positivity) (Real.exp_pos _).le)
  rw [div_mul_div_comm, div_le_div_iff₀ hS (by positivity)]
  nlinarith

theorem u_step_hi (i uh uh' : ℕ) (u2 : Real.exp (i / N) ≤ (uh : ℝ) / S)
    (h : uh * (18 * N * N * N + 18 * N * N + 9 * N + 4) ≤ uh' * (18 * N * N * N)) :
    Real.exp ((i + 1 : ℕ) / N) ≤ (uh' : ℝ) / S := by
  have hS := S_pos
  have hN := N_pos
  have h' : (uh : ℝ) * (18 * N * N * N + 18 * N * N + 9 * N + 4) ≤ uh' * (18 * N * N * N) := by exact_mod_cast h
  have hq := eh_hi
  push_cast at hq
  have e1 : (((i + 1 : ℕ) : ℝ)) / N = i / N + 1 / N := by push_cast; field_simp
  rw [e1, Real.exp_add]
  refine le_trans (mul_le_mul u2 hq (Real.exp_pos _).le (by positivity)) ?_
  rw [div_mul_div_comm, div_le_div_iff₀ (by positivity) hS]
  nlinarith

theorem P_at (i : ℕ) : P (i / N) = (((N : ℝ) + i) / (N - i)) ^ a := by
  unfold P; rw [P_grid _ _ N_pos]

theorem P_at' (i : ℕ) : P ((i + 1 : ℕ) / N) = (((N : ℝ) + i + 1) / (N - i - 1)) ^ a := by
  rw [P_at]; push_cast; rw [add_assoc, sub_sub]

theorem p_step_lo (i pl pl' : ℕ) (hi : i + 1 < N) (p1 : (pl : ℝ) / S ≤ P (i / N))
    (h : pl' * (Ad * ((N - i - 1) * (N + i))) ≤ pl * (Ad * ((N - i - 1) * (N + i)) + An * (2 * N))) :
    (pl' : ℝ) / S ≤ P ((i + 1 : ℕ) / N) := by
  have hS := S_pos
  have hN := N_pos
  have hA : (0 : ℝ) < Ad := by norm_num [Ad]
  have hi' : (i : ℝ) + 1 < N := by exact_mod_cast hi
  have q1 : (0 : ℝ) < N - i - 1 := by linarith
  have q2 : (0 : ℝ) < N + i := by positivity
  have ec : ((N - i - 1 : ℕ) : ℝ) = N - i - 1 := by rw [Nat.cast_sub (by omega), Nat.cast_sub (by omega)]; simp
  have h' : (pl' : ℝ) * (Ad * ((N - i - 1) * (N + i))) ≤ pl * (Ad * ((N - i - 1) * (N + i)) + An * (2 * N)) := by
    rw [← ec]; exact_mod_cast h
  rw [P_at] at p1
  rw [P_at']
  refine le_trans ?_ (pow_lower N i a (Nat.cast_nonneg _) hi' one_le_a)
  refine le_trans ?_ (mul_le_mul_of_nonneg_right p1 (by have := one_le_a; positivity))
  rw [show (pl : ℝ) / S * (1 + a * (2 * N / ((N - i - 1) * (N + i)))) = (pl * (Ad * ((N - i - 1) * (N + i)) + An * (2 * N))) / (S * (Ad * ((N - i - 1) * (N + i)))) by
    unfold a; field_simp]
  rw [div_le_div_iff₀ hS (by positivity)]
  nlinarith

theorem p_step_hi (i ph ph' : ℕ) (hi : i + 1 < N) (p2 : P (i / N) ≤ (ph : ℝ) / S)
    (h0 : An * (2 * N) + 1 ≤ Ad * ((N + i + 1) * (N - i)))
    (h : ph * (Ad * ((N + i + 1) * (N - i))) + ph' * (An * (2 * N)) ≤ ph' * (Ad * ((N + i + 1) * (N - i)))) :
    P ((i + 1 : ℕ) / N) ≤ (ph' : ℝ) / S := by
  have hS := S_pos
  have hN := N_pos
  have hA : (0 : ℝ) < Ad := by norm_num [Ad]
  have hi' : (i : ℝ) + 1 < N := by exact_mod_cast hi
  have q1 : (0 : ℝ) < N - i := by linarith
  have q2 : (0 : ℝ) < N + i + 1 := by positivity
  have ec : ((N - i : ℕ) : ℝ) = N - i := by rw [Nat.cast_sub (by omega)]
  have h0' : (An : ℝ) * (2 * N) + 1 ≤ Ad * ((N + i + 1) * (N - i)) := by rw [← ec]; exact_mod_cast h0
  have h' : (ph : ℝ) * (Ad * ((N + i + 1) * (N - i))) + ph' * (An * (2 * N)) ≤ ph' * (Ad * ((N + i + 1) * (N - i))) := by
    rw [← ec]; exact_mod_cast h
  rw [P_at] at p2
  rw [P_at']
  have hu := (pow_upper N i a (Nat.cast_nonneg _) hi' one_le_a).trans p2
  have ef : 1 - a * (2 * N / ((N + i + 1) * (N - i))) = (Ad * ((N + i + 1) * (N - i)) - An * (2 * N)) / (Ad * ((N + i + 1) * (N - i))) := by
    unfold a; field_simp
  have hf : 0 < 1 - a * (2 * N / ((N + i + 1) * (N - i))) := by
    rw [ef]; exact div_pos (by linarith) (by positivity)
  refine le_of_mul_le_mul_right (hu.trans ?_) hf
  rw [ef, div_mul_div_comm, div_le_div_iff₀ hS (by positivity)]
  nlinarith

/-! ## What a step's bounds say of the arguments in it -/

theorem c_pos : 0 < c := Real.exp_pos _

theorem sg_div {p : ℝ} (hp : 0 < p) : sg (c / p) = c / (p + c) := by
  unfold sg; have := c_pos; field_simp

theorem good_up (t : ℝ) (pl fh : ℕ) (hP : (pl : ℝ) / S ≤ P t) (hF : F t ≤ (fh : ℝ) / S)
    (h : fh * (S * S + CL * pl) ≤ (K + e) * (S * S + CL * pl) + S * (CL * pl)) : F t ≤ K / S + sg (c * P t) + e / S := by
  have hS := S_pos
  have h' : (fh : ℝ) * (S * S + CL * pl) ≤ (K + e) * (S * S + CL * pl) + S * (CL * pl) := by exact_mod_cast h
  have hs : sg (CL / S * (pl / S)) ≤ sg (c * P t) := sg_mono (by positivity) (mul_le_mul c_lo hP (by positivity) c_pos.le)
  have hq : (fh : ℝ) / S ≤ K / S + sg (CL / S * (pl / S)) + e / S := by
    rw [show (K : ℝ) / S + sg (CL / S * (pl / S)) + e / S = ((K + e) * (S * S + CL * pl) + S * (CL * pl)) / (S * (S * S + CL * pl)) by
      unfold sg; field_simp; ring]
    rw [div_le_div_iff₀ hS (by positivity)]
    nlinarith
  linarith

theorem good_lo (t : ℝ) (ph fl : ℕ) (h0 : 0 < P t) (hP : P t ≤ (ph : ℝ) / S) (hF : (fl : ℝ) / S ≤ F t)
    (h : K * (S * S + CH * ph) + S * (CH * ph) ≤ (fl + e) * (S * S + CH * ph)) : K / S + sg (c * P t) ≤ F t + e / S := by
  have hS := S_pos
  have h' : (K : ℝ) * (S * S + CH * ph) + S * (CH * ph) ≤ (fl + e) * (S * S + CH * ph) := by exact_mod_cast h
  have hs : sg (c * P t) ≤ sg (CH / S * (ph / S)) := sg_mono (mul_nonneg c_pos.le h0.le) (mul_le_mul c_hi hP h0.le (by positivity))
  have hq : K / S + sg (CH / S * (ph / S)) ≤ (fl : ℝ) / S + e / S := by
    rw [show K / S + sg (CH / S * (ph / S)) = ((K : ℝ) * (S * S + CH * ph) + S * (CH * ph)) / (S * (S * S + CH * ph)) by
      unfold sg; field_simp, ← add_div]
    rw [div_le_div_iff₀ (by positivity) hS]
    nlinarith
  linarith

theorem good_nup (t : ℝ) (i ph fh : ℕ) (h0 : 0 < P t) (hP : P t ≤ (ph : ℝ) / S) (hF : F (-t) ≤ (fh : ℝ) / S - i / N)
    (h : N * fh * (CL + ph) ≤ (N * (K + e) + S * i) * (CL + ph) + N * S * CL) : F (-t) ≤ K / S + sg (c / P t) + e / S := by
  have hS := S_pos
  have hN := N_pos
  have hL : (0 : ℝ) < CL := by norm_num [CL]
  have h' : (N : ℝ) * fh * (CL + ph) ≤ (N * (K + e) + S * i) * (CL + ph) + N * S * CL := by exact_mod_cast h
  have hs : (CL : ℝ) / (CL + ph) ≤ sg (c / P t) := by
    rw [sg_div h0, div_le_div_iff₀ (by positivity) (by have := c_pos; positivity)]
    have : (CL : ℝ) * P t ≤ c * ph := by
      calc (CL : ℝ) * P t ≤ CL * (ph / S) := mul_le_mul_of_nonneg_left hP hL.le
        _ = CL / S * ph := by ring
        _ ≤ c * ph := mul_le_mul_of_nonneg_right c_lo (Nat.cast_nonneg _)
    nlinarith
  have hq : (fh : ℝ) / S - i / N ≤ K / S + CL / (CL + ph) + e / S := by
    rw [sub_le_iff_le_add]
    rw [show (K : ℝ) / S + CL / (CL + ph) + e / S + i / N = ((N * (K + e) + S * i) * (CL + ph) + N * S * CL) / (S * (N * (CL + ph))) by
      field_simp; ring]
    rw [div_le_div_iff₀ hS (by positivity)]
    nlinarith
  linarith

theorem good_nlo (t : ℝ) (i pl fl : ℕ) (h0 : 0 < P t) (hP : (pl : ℝ) / S ≤ P t) (hF : (fl : ℝ) / S - (i + 1 : ℕ) / N ≤ F (-t))
    (h : (N * K + S * (i + 1)) * (CH + pl) + N * S * CH ≤ N * (fl + e) * (CH + pl)) : K / S + sg (c / P t) ≤ F (-t) + e / S := by
  have hS := S_pos
  have hN := N_pos
  have hH : (0 : ℝ) < CH := by norm_num [CH]
  have h' : ((N : ℝ) * K + S * (i + 1)) * (CH + pl) + N * S * CH ≤ N * (fl + e) * (CH + pl) := by exact_mod_cast h
  have hs : sg (c / P t) ≤ (CH : ℝ) / (CH + pl) := by
    rw [sg_div h0, div_le_div_iff₀ (by have := c_pos; positivity) (by positivity)]
    have : c * pl ≤ (CH : ℝ) * P t := by
      calc c * pl ≤ CH / S * pl := mul_le_mul_of_nonneg_right c_hi (Nat.cast_nonneg _)
        _ = CH * (pl / S) := by ring
        _ ≤ CH * P t := mul_le_mul_of_nonneg_left hP hH.le
    nlinarith
  have hq : (K : ℝ) / S + CH / (CH + pl) ≤ (fl : ℝ) / S - (i + 1 : ℕ) / N + e / S := by
    rw [show (fl : ℝ) / S - (i + 1 : ℕ) / N + e / S = (fl / S + e / S) - (i + 1 : ℕ) / N by ring, le_sub_iff_add_le]
    rw [show (K : ℝ) / S + CH / (CH + pl) + (i + 1 : ℕ) / N = ((N * K + S * (i + 1)) * (CH + pl) + N * S * CH) / (S * (N * (CH + pl))) by
      push_cast; field_simp; ring, ← add_div]
    rw [div_le_div_iff₀ (mul_pos hS (mul_pos hN (add_pos_of_pos_of_nonneg hH (Nat.cast_nonneg _)))) hS]
    nlinarith
  linarith

theorem next_sound (i pl ph ul uh fl fh pl' ph' ul' uh' fl' fh' : ℕ) (hi : i + 1 < N)
    (h : next i pl ph ul uh fl fh pl' ph' ul' uh' fl' fh' = true) (I : Inv i pl ph ul uh fl fh) :
    Inv (i + 1) pl' ph' ul' uh' fl' fh' ∧ ∀ t : ℝ, (i : ℝ) / N ≤ t → t ≤ (i + 1 : ℕ) / N → Good t := by
  simp only [next, Bool.and_eq_true, Nat.ble_eq] at h
  obtain ⟨⟨⟨⟨⟨⟨⟨⟨⟨⟨h1, h2⟩, h3⟩, h4⟩, h5⟩, h6⟩, h7⟩, h8⟩, h9⟩, h10⟩, h11⟩ := h
  have I' : Inv (i + 1) pl' ph' ul' uh' fl' fh' :=
    ⟨p_step_lo i pl pl' hi I.p1 h1, p_step_hi i ph ph' hi I.p2 h3 h2, u_step_lo i ul ul' I.u1 h4, u_step_hi i uh uh' I.u2 h5,
      f_step_lo i fl ul' fl' I.f1 (u_step_lo i ul ul' I.u1 h4) h6, f_step_hi i fh uh fh' I.f2 I.u2 h7⟩
  refine ⟨I', fun t ht ht' => ?_⟩
  have hN := N_pos
  have t0 : 0 ≤ t := le_trans (by positivity) ht
  have t1 : ((i + 1 : ℕ) : ℝ) / N < 1 := by rw [div_lt_one hN]; exact_mod_cast hi
  have hp := P_pos t0 (lt_of_le_of_lt ht' t1)
  have m1 := I.p1.trans (P_mono (by positivity) ht (lt_of_le_of_lt ht' t1))
  have m2 := (P_mono t0 ht' t1).trans I'.p2
  refine ⟨good_up t pl fh' m1 ((F_mono ht').trans I'.f2) h8, good_lo t ph' fl hp m2 (I.f1.trans (F_mono ht)) h9,
    good_nup t i ph' fh hp m2 ?_ h10, good_nlo t i pl fl' hp m1 ?_ h11⟩
  · have := F_mono (neg_le_neg ht)
    rw [F_neg (i / N)] at this
    linarith [I.f2]
  · have := F_mono (neg_le_neg ht')
    rw [F_neg ((i + 1 : ℕ) / N)] at this
    linarith [I'.f1]

theorem last_sound (i pl ph ul uh fl fh ul' fl' fh' : ℕ) (hi : i + 1 = N)
    (h : last i pl ul uh fl fh ul' fl' fh' = true) (I : Inv i pl ph ul uh fl fh) :
    ∀ t : ℝ, (i : ℝ) / N ≤ t → t < 1 → Good t := by
  simp only [last, Bool.and_eq_true, Nat.ble_eq] at h
  obtain ⟨⟨⟨⟨⟨⟨h4, h6⟩, h7⟩, h8⟩, h9⟩, h10⟩, h11⟩ := h
  have hS := S_pos
  have hN := N_pos
  have f1 := f_step_lo i fl ul' fl' I.f1 (u_step_lo i ul ul' I.u1 h4) h6
  have f2 := f_step_hi i fh uh fh' I.f2 I.u2 h7
  intro t ht ht1
  have e1 : ((i + 1 : ℕ) : ℝ) / N = 1 := by rw [hi]; exact div_self hN.ne'
  have ht' : t ≤ (i + 1 : ℕ) / N := by rw [e1]; exact ht1.le
  have t0 : 0 ≤ t := le_trans (by positivity) ht
  have hp := P_pos t0 ht1
  have m1 := I.p1.trans (P_mono (by positivity) ht ht1)
  refine ⟨good_up t pl fh' m1 ((F_mono ht').trans f2) h8, ?_, ?_, good_nlo t i pl fl' hp m1 ?_ h11⟩
  · have a1 := sg_le_one (mul_nonneg c_pos.le hp.le)
    have a2 := I.f1.trans (F_mono ht)
    have a3 : (K : ℝ) + S ≤ fl + e := by exact_mod_cast h9
    have a4 : (K : ℝ) / S + 1 ≤ fl / S + e / S := by
      rw [← add_div, show (K : ℝ) / S + 1 = (K + S) / S by field_simp]
      exact div_le_div_of_nonneg_right a3 hS.le
    linarith
  · have a1 := sg_nonneg (div_nonneg c_pos.le hp.le)
    have a2 := F_mono (neg_le_neg ht)
    rw [F_neg (i / N)] at a2
    have a3 : (N : ℝ) * fh ≤ N * (K + e) + S * i := by exact_mod_cast h10
    have a4 : (fh : ℝ) / S ≤ K / S + e / S + i / N := by
      rw [show (K : ℝ) / S + e / S + i / N = (N * (K + e) + S * i) / (S * N) by field_simp, div_le_div_iff₀ hS (mul_pos hS hN)]
      nlinarith
    linarith [I.f2]
  · have := F_mono (neg_le_neg ht')
    rw [F_neg ((i + 1 : ℕ) / N)] at this
    linarith

theorem walk_sound (k : ℕ) : ∀ i pl ph ul uh fl fh : ℕ, i + k + 1 = N → walk k i pl ph ul uh fl fh = true → Inv i pl ph ul uh fl fh →
    ∀ t : ℝ, (i : ℝ) / N ≤ t → t < 1 → Good t := by
  induction k with
  | zero =>
    intro i pl ph ul uh fl fh hi h I
    simp only [walk, force_eq] at h
    exact last_sound i pl ph ul uh fl fh _ _ _ hi h I
  | succ k ih =>
    intro i pl ph ul uh fl fh hi h I t ht ht1
    simp only [walk, force_eq] at h
    rw [Bool.and_eq_true] at h
    obtain ⟨I', g⟩ := next_sound i pl ph ul uh fl fh _ _ _ _ _ _ (by omega) h.1 I
    rcases le_total t ((i + 1 : ℕ) / N) with hl | hl
    · exact g t ht hl
    · exact ih (i + 1) _ _ _ _ _ _ (by omega) h.2 I' t hl ht1

/-- Every argument below one is good. -/
theorem good (t : ℝ) (h0 : 0 ≤ t) (h1 : t < 1) : Good t :=
  walk_sound 3999 0 S S S S 762123384000 762123386000 rfl checked start t (by simpa using h0) h1

end Cert.Fit
-- ==== Proof.Elem.lean ====
/- One element: the kernel's number against the plain reference's, in the reals. -/
module

public import proofs.«01_k».proof.Proof.Alg
public import proofs.«01_k».proof.Proof.Fit
public import Mathlib.Analysis.SpecialFunctions.Artanh

@[expose] public section

noncomputable section

namespace Cert.Elem

open Idealize.ShloMosaic Cert.Fit Cert.Walk

theorem c_fit : Ideal.ofBits .f32 0x3F5031EB#32 = ((13644267 / 16777216 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_shift : Ideal.ofBits .f32 0xBE7AE148#32 = ((-(2055209 / 8388608) : ℝ) : EReal) := by
  simp [Ideal.ofBits, Ideal.ieee, -EReal.coe_mul, -EReal.coe_neg]; norm_num
theorem c_tol : Ideal.ofBits .f32 0x3B23D70A#32 = ((5368709 / 2147483648 : ℝ) : EReal) := by
  simp [Ideal.ofBits, Ideal.ieee, -EReal.coe_mul]; norm_num
theorem c_len0 : Ideal.ofBits .f32 0x3B449BA6#32 = ((6442451 / 2147483648 : ℝ) : EReal) := by
  simp [Ideal.ofBits, Ideal.ieee, -EReal.coe_mul]; norm_num
theorem c_len1 : Ideal.ofBits .f32 0x3A83126F#32 = ((8589935 / 8589934592 : ℝ) : EReal) := by
  simp [Ideal.ofBits, Ideal.ieee, -EReal.coe_mul]; norm_num
theorem c_len2 : Ideal.ofBits .f32 0x3B03126F#32 = ((8589935 / 4294967296 : ℝ) : EReal) := by
  simp [Ideal.ofBits, Ideal.ieee, -EReal.coe_mul]; norm_num

/-- The printed softplus of a real number. -/
theorem sp_real (u : ℝ) : max (u : EReal) 0 + Ideal.log1p (Ideal.exp (-FloatOps.absf (F := Ideal) (φ := .f32) (u : EReal))) = ((F u : ℝ) : EReal) := by
  have ha : FloatOps.absf (F := Ideal) (φ := .f32) (u : EReal) = ((|u| : ℝ) : EReal) := by
    show max (u : EReal) (-(u : EReal)) = _
    rw [← EReal.coe_neg, ← EReal.coe_strictMono.monotone.map_max]; rfl
  have hm : max (u : EReal) 0 = ((max u 0 : ℝ) : EReal) := by
    rw [← EReal.coe_zero, ← EReal.coe_strictMono.monotone.map_max]
  rw [ha, hm, ← EReal.coe_neg]
  show ((max u 0 : ℝ) : EReal) + Ideal.log (1 + ((Real.exp (-|u|) : ℝ) : EReal)) = _
  have hp := Real.exp_pos (-|u|)
  have hl : Ideal.log (1 + ((Real.exp (-|u|) : ℝ) : EReal)) = ((F (-|u|) : ℝ) : EReal) := by
    rw [← EReal.coe_one, ← EReal.coe_add]
    show (if 1 + Real.exp (-|u|) ≤ 0 then (⊥ : EReal) else ((Real.log (1 + Real.exp (-|u|)) : ℝ) : EReal)) = _
    rw [if_neg (by linarith)]
    rfl
  rw [hl, ← EReal.coe_add]
  congr 1
  rcases le_total 0 u with h | h
  · rw [max_eq_left h, abs_of_nonneg h, F_neg]; ring
  · rw [max_eq_right h, abs_of_nonpos h, neg_neg, zero_add]

theorem tanh_real (z : EReal) : ∃ t : ℝ, Ideal.tanh z = (t : EReal) := by
  induction z with
  | bot => exact ⟨-1, by show (-1 : EReal) = _; simp⟩
  | coe z => exact ⟨Real.tanh z, rfl⟩
  | top => exact ⟨1, by show (1 : EReal) = _; simp⟩

theorem F_nonneg (t : ℝ) : 0 ≤ F t := Real.log_nonneg (by have := Real.exp_pos t; linarith)

theorem F_one_lo : K / S + 1 - e / S ≤ F 1 := by
  unfold F
  rw [Real.le_log_iff_exp_le (by have := Real.exp_pos 1; linarith)]
  have h1 := Real.sum_le_exp_of_nonneg (x := 1) (by norm_num) 8
  have h2 := Real.exp_bound' (x := (K / S + 1 - e / S) / 2) (by norm_num [K, S, e]) (by norm_num [K, S, e]) (n := 8) (by norm_num)
  have h3 := Real.exp_pos ((K / S + 1 - e / S : ℝ) / 2)
  have h4 : Real.exp (K / S + 1 - e / S) = Real.exp ((K / S + 1 - e / S) / 2) * Real.exp ((K / S + 1 - e / S) / 2) := by
    rw [← Real.exp_add]; congr 1; ring
  have h5 : Real.exp ((K / S + 1 - e / S : ℝ) / 2) ≤ 1927 / 1000 := le_trans h2 (by
    simp only [Finset.sum_range_succ, Finset.sum_range_zero, Nat.factorial]
    norm_num [K, S, e])
  have h6 : (2.718 : ℝ) ≤ Real.exp 1 := le_trans (by
    simp only [Finset.sum_range_succ, Finset.sum_range_zero, Nat.factorial]
    norm_num) h1
  rw [h4]
  nlinarith

theorem F_one_hi : F 1 ≤ K / S + 1 + e / S := by
  unfold F
  rw [Real.log_le_iff_le_exp (by have := Real.exp_pos 1; linarith)]
  have h1 := Real.exp_bound' (x := 1) (by norm_num) (by norm_num) (n := 10) (by norm_num)
  have h2 := Real.sum_le_exp_of_nonneg (x := K / S + 1 + e / S) (by norm_num [K, S, e]) 12
  have h6 : Real.exp 1 ≤ 2.7183 := le_trans h1 (by
    simp only [Finset.sum_range_succ, Finset.sum_range_zero, Nat.factorial]
    norm_num)
  have h5 : (3.72 : ℝ) ≤ Real.exp (K / S + 1 + e / S) := le_trans (by
    simp only [Finset.sum_range_succ, Finset.sum_range_zero, Nat.factorial]
    norm_num [K, S, e]) h2
  linarith

/-- The logistic function by the hyperbolic tangent. -/
theorem sg_tanh (y : ℝ) : sg (Real.exp (2 * y)) = 1 / 2 + 1 / 2 * Real.tanh y := by
  unfold sg
  have h := Real.exp_pos y
  have e2 : Real.exp (2 * y) = Real.exp y * Real.exp y := by rw [← Real.exp_add]; congr 1; ring
  have en : Real.exp (-y) = (Real.exp y)⁻¹ := Real.exp_neg y
  rw [Real.tanh_eq_sinh_div_cosh, Real.sinh_eq, Real.cosh_eq, e2, en]
  have : Real.exp y * Real.exp y + 1 ≠ 0 := by positivity
  have : 1 + Real.exp y * Real.exp y ≠ 0 := by positivity
  field_simp
  ring

/-- The quotient that the power is of, by the exponential. -/
theorem quot_tanh (z : ℝ) : (1 + Real.tanh z) / (1 - Real.tanh z) = Real.exp (2 * z) := by
  have h := Real.exp_pos z
  have e2 : Real.exp (2 * z) = Real.exp z * Real.exp z := by rw [← Real.exp_add]; congr 1; ring
  have en : Real.exp (-z) = (Real.exp z)⁻¹ := Real.exp_neg z
  have hc := Real.cosh_pos z
  rw [Real.tanh_eq_sinh_div_cosh, show (1 + Real.sinh z / Real.cosh z) = (Real.cosh z + Real.sinh z) / Real.cosh z by field_simp,
    show (1 - Real.sinh z / Real.cosh z) = (Real.cosh z - Real.sinh z) / Real.cosh z by field_simp, div_div_div_cancel_right₀ hc.ne',
    Real.cosh_add_sinh, Real.cosh_sub_sinh, e2, en]
  field_simp

theorem P_tanh (z : ℝ) : P (Real.tanh z) = Real.exp (2 * (a * z)) := by
  unfold P
  rw [quot_tanh, ← Real.exp_mul]
  congr 1; ring

theorem tanh_nonneg {z : ℝ} (h : 0 ≤ z) : 0 ≤ Real.tanh z := by
  rw [Real.tanh_eq_sinh_div_cosh]
  exact div_nonneg (Real.sinh_nonneg_iff.mpr h) (Real.cosh_pos z).le

/-- The fit at a real pairing. -/
theorem fit_real (z : ℝ) : |13644267 / 16777216 + 1 / 2 * Real.tanh (a * z + -(2055209 / 8388608)) - F (Real.tanh z)| ≤ e / S := by
  have hK : (K : ℝ) / S + 1 / 2 = 13644267 / 16777216 := by norm_num [K, S]
  have main : ∀ y : ℝ, 13644267 / 16777216 + 1 / 2 * Real.tanh y = K / S + sg (Real.exp (2 * y)) := fun y => by
    rw [sg_tanh, ← hK]; ring
  rw [main, abs_le]
  have hlt : ∀ w : ℝ, Real.tanh w < 1 := Real.tanh_lt_one
  rcases le_total 0 z with h | h
  · have g := good (Real.tanh z) (tanh_nonneg h) (hlt z)
    have ee : Real.exp (2 * (a * z + -(2055209 / 8388608))) = c * P (Real.tanh z) := by
      rw [P_tanh, c, ← Real.exp_add]; congr 1; ring
    rw [ee]
    exact ⟨by linarith [g.up], by linarith [g.lo]⟩
  · have g := good (Real.tanh (-z)) (tanh_nonneg (by linarith)) (hlt _)
    have ee : Real.exp (2 * (a * z + -(2055209 / 8388608))) = c / P (Real.tanh (-z)) := by
      rw [P_tanh, c, ← Real.exp_sub]; congr 1; ring
    rw [ee]
    have e1 : F (Real.tanh z) = F (-Real.tanh (-z)) := by rw [Real.tanh_neg, neg_neg]
    rw [e1]
    exact ⟨by linarith [g.nup], by linarith [g.nlo]⟩

/-- The fit at any pairing, an infinite one too. -/
theorem fit_close (z : EReal) : ∃ f t : ℝ, Ideal.tanh z = (t : EReal) ∧ t ≤ 1
    ∧ Ideal.ofBits .f32 0x3F5031EB#32 + Ideal.ofBits .f32 0x3F000000#32 * Ideal.tanh (Ideal.ofBits .f32 0x3F85C28F#32 * z + Ideal.ofBits .f32 0xBE7AE148#32) = (f : EReal)
    ∧ |f - F t| ≤ e / S := by
  rw [c_fit, c_half, c_shift, Alg.c_scale]
  have hK : (K : ℝ) / S + 1 / 2 = 13644267 / 16777216 := by norm_num [K, S]
  induction z with
  | bot =>
    rw [EReal.coe_mul_bot_of_pos (by norm_num), EReal.bot_add]
    refine ⟨13644267 / 16777216 + 1 / 2 * (-1), -1, by show (-1 : EReal) = _; simp, by norm_num, ?_, ?_⟩
    · show _ + _ * (-1 : EReal) = _
      rw [show (-1 : EReal) = ((-1 : ℝ) : EReal) by simp, ← EReal.coe_mul, ← EReal.coe_add]
    · rw [F_neg, abs_le]
      exact ⟨by linarith [F_one_hi], by linarith [F_one_lo]⟩
  | top =>
    rw [EReal.coe_mul_top_of_pos (by norm_num), EReal.top_add_coe]
    refine ⟨13644267 / 16777216 + 1 / 2 * 1, 1, by show (1 : EReal) = _; simp, le_refl _, ?_, ?_⟩
    · show _ + _ * (1 : EReal) = _
      rw [show (1 : EReal) = ((1 : ℝ) : EReal) by simp, ← EReal.coe_mul, ← EReal.coe_add]
    · rw [abs_le]
      exact ⟨by linarith [F_one_hi], by linarith [F_one_lo]⟩
  | coe z =>
    refine ⟨13644267 / 16777216 + 1 / 2 * Real.tanh (a * z + -(2055209 / 8388608)), Real.tanh z, rfl, (Real.tanh_lt_one z).le, ?_, fit_real z⟩
    rw [← EReal.coe_mul, ← EReal.coe_add]
    show _ + _ * ((Real.tanh _ : ℝ) : EReal) = _
    rw [← EReal.coe_mul, ← EReal.coe_add, show a = 8766095 / 8388608 by norm_num [a, An, Ad]]

/-- Two exponentials of nonpositive numbers. -/
theorem exp_close (p q : ℝ) (hp : p ≤ 0) (hq : q ≤ 0) : |Real.exp p - Real.exp q| ≤ |p - q| := by
  have key : ∀ u v : ℝ, v ≤ 0 → Real.exp v - Real.exp u ≤ |u - v| := fun u v hv => by
    have h1 := Real.add_one_le_exp (u - v)
    have h2 : Real.exp u = Real.exp v * Real.exp (u - v) := by rw [← Real.exp_add]; congr 1; ring
    have h3 := Real.exp_pos v
    have h4 : Real.exp v ≤ 1 := Real.exp_le_one_iff.mpr hv
    have h5 := neg_abs_le (u - v)
    have h6 := abs_nonneg (u - v)
    rw [h2]
    nlinarith
  rw [abs_le]
  exact ⟨by linarith [key p q hq], by have := key q p hp; rw [abs_sub_comm] at this; linarith⟩

/-- The two weighted numbers at near points. -/
theorem near_close (d L l f t : ℝ) (hd : 0 ≤ d) (hL : 0 < L) (hl : 0 < l) (hLl : |1000 / L - 1 / l| ≤ 1 / 10000) (hL1 : 1 ≤ L) (hD : Real.sqrt d ≤ 5368709 / 536870912)
    (ht : t ≤ 1) (hf : |f - F t| ≤ e / S) :
    |Real.exp (-(1000 * Real.sqrt (d + Alg.tiny)) * (1 / L)) * f - Real.exp (-Real.sqrt d * (1 / l)) * F t| ≤ 5368709 / 2147483648 := by
  have s0 := Real.sqrt_nonneg d
  have s1 := Real.sqrt_nonneg (d + Alg.tiny)
  have s2 : Real.sqrt d ≤ Real.sqrt (d + Alg.tiny) := Real.sqrt_le_sqrt (by linarith [Alg.tiny_pos])
  have s3 : Real.sqrt (d + Alg.tiny) ≤ Real.sqrt d + 1 / 10 ^ 16 := by
    rw [Real.sqrt_le_left (by positivity)]
    have := Real.sq_sqrt hd
    have ht : Alg.tiny ≤ (1 / 10 ^ 16) ^ 2 := by unfold Alg.tiny; norm_num
    nlinarith
  have iL : 0 < 1 / L := by positivity
  have il : 0 < 1 / l := by positivity
  have iL1 : 1 / L ≤ 1 := by rw [div_le_one hL]; exact hL1
  have hx := exp_close (-(1000 * Real.sqrt (d + Alg.tiny)) * (1 / L)) (-Real.sqrt d * (1 / l)) (by nlinarith) (by nlinarith)
  have hdiff : |-(1000 * Real.sqrt (d + Alg.tiny)) * (1 / L) - -Real.sqrt d * (1 / l)| ≤ 1 / 100000 := by
    have e1 : -(1000 * Real.sqrt (d + Alg.tiny)) * (1 / L) - -Real.sqrt d * (1 / l)
        = -(1000 * (1 / L)) * (Real.sqrt (d + Alg.tiny) - Real.sqrt d) - (1000 / L - 1 / l) * Real.sqrt d := by ring
    rw [e1]
    refine le_trans (abs_sub _ _) ?_
    rw [abs_mul, abs_mul, abs_neg, abs_of_nonneg (by positivity : (0 : ℝ) ≤ 1000 * (1 / L)), abs_of_nonneg (by linarith : 0 ≤ Real.sqrt (d + Alg.tiny) - Real.sqrt d), abs_of_nonneg s0]
    have h1 : 1000 * (1 / L) * (Real.sqrt (d + Alg.tiny) - Real.sqrt d) ≤ 1000 * (1 / 10 ^ 16) :=
      mul_le_mul (by linarith) (by linarith) (by linarith) (by norm_num)
    have h2 : |1000 / L - 1 / l| * Real.sqrt d ≤ 1 / 10000 * (5368709 / 536870912) := mul_le_mul hLl hD s0 (by norm_num)
    norm_num at h1 h2 ⊢
    linarith
  have hF0 := F_nonneg t
  have hF1 : F t ≤ 2 := le_trans (F_mono ht) (le_trans F_one_hi (by norm_num [K, S, e]))
  have hE := Real.exp_pos (-(1000 * Real.sqrt (d + Alg.tiny)) * (1 / L))
  have hE1 : Real.exp (-(1000 * Real.sqrt (d + Alg.tiny)) * (1 / L)) ≤ 1 := Real.exp_le_one_iff.mpr (by nlinarith)
  generalize Real.exp (-(1000 * Real.sqrt (d + Alg.tiny)) * (1 / L)) = E at *
  generalize Real.exp (-Real.sqrt d * (1 / l)) = E' at *
  have e2 : E * f - E' * F t = E * (f - F t) + (E - E') * F t := by ring
  rw [e2]
  refine le_trans (abs_add_le _ _) ?_
  rw [abs_mul, abs_mul, abs_of_pos hE, abs_of_nonneg hF0]
  have h1 : E * |f - F t| ≤ 1 * (e / S) := mul_le_mul hE1 hf (abs_nonneg _) (by norm_num)
  have h2 : |E - E'| * F t ≤ 1 / 100000 * 2 := mul_le_mul (le_trans hx hdiff) hF1 hF0 (by norm_num)
  have h3 : (e : ℝ) / S ≤ 24500 / 10000000 := by norm_num [e, S]
  linarith

end Cert.Elem

end
-- ==== Proof.Close.lean ====
/- The kernel's formula is within the bound of the plain reference, under the precondition of sparse rows. -/
module

public import proofs.«01_k».proof.Proof.Pre
public import proofs.«01_k».proof.Proof.Post
public import proofs.«01_k».proof.Proof.Elem
public import proofs.«01_k».proof.Proof.FI.At

@[expose] public section

set_option maxRecDepth 16384

noncomputable section

namespace Cert.Close

open Idealize.ShloMosaic Idealize.ShloMosaic.TcCoe Idealize.ShloMosaic.Tactic
open Cert.Post_close Cert.Post_close.Facts Cert.Post Cert.Fit
open Cert.FittedIdeal.Val (form)
open Cert.KernelIdeal.Val (q sq2 cut fit decay)

variable [Cert.Post_close.Facts]

theorem sqrt_real (d : ℝ) (h : 0 ≤ d) : Ideal.sqrt (d : EReal) = ((Real.sqrt d : ℝ) : EReal) := by
  show (if d < 0 then (⊥ : EReal) else ((Real.sqrt d : ℝ) : EReal)) = _
  rw [if_neg (not_lt.mpr h)]

theorem gap_real (x x' y y' : ℝ) :
    ((x : EReal) - y) * ((x : EReal) - y) + ((x' : EReal) - y') * ((x' : EReal) - y') = (((x - y) * (x - y) + (x' - y') * (x' - y') : ℝ) : EReal) := by
  push_cast; rfl

theorem gap_nonneg (x x' y y' : ℝ) : 0 ≤ (x - y) * (x - y) + (x' - y') * (x' - y') :=
  add_nonneg (mul_self_nonneg _) (mul_self_nonneg _)

/-- The mask as a number. -/
theorem mask_num (p : Prop) [Decidable p] : FloatOps.uitofp (F := Ideal) .f32 (BitVec.ofBool (decide p)) = (((if p then 1 else 0 : ℝ)) : EReal) := by
  show (((BitVec.ofBool (decide p)).toNat : ℝ) : EReal) = _
  by_cases h : p <;> simp [h]

/-- The plain reference's number, of real coordinates. -/
theorem prior_real (H : Vec Ideal S4096x256 .f32) (C : Vec Ideal S4096x2 .f32) (w : Vec Ideal S1x256x256 .f32) (l : Vec Ideal S_ .f32) (l' : ℝ) (hl : l ix0 = (l' : EReal)) (hl' : 0 < l')
    (r s : Fin 4096) (x x' y y' t : ℝ) (h0 : C (ix2 r 0) = (x : EReal)) (h1 : C (ix2 r 1) = (x' : EReal)) (h2 : C (ix2 s 0) = (y : EReal)) (h3 : C (ix2 s 1) = (y' : EReal))
    (ht : Ideal.tanh (score H w r s) = (t : EReal)) :
    prior H C w l (ix2 r s)
      = ((Real.exp (-Real.sqrt ((x - y) * (x - y) + (x' - y') * (x' - y')) * (1 / l')) * (if Pre.Near C r s then 1 else 0) * F (if r = s then 0 else t) : ℝ) : EReal) := by
  have hu : Ideal.tanh (score H w r s) - (if r = s then Ideal.tanh (score H w r s) else 0) = (((if r = s then 0 else t : ℝ)) : EReal) := by
    rw [ht]
    by_cases e : r = s
    · rw [if_pos e, if_pos e, ← EReal.coe_sub, sub_self]
    · rw [if_neg e, if_neg e, sub_zero]
  rw [prior_at, mask_num, hu]
  show _ * _ * (max (((if r = s then 0 else t : ℝ)) : EReal) 0 + _) = _
  rw [Elem.sp_real, hl, h0, h1, h2, h3, gap_real, sqrt_real _ (gap_nonneg x x' y y'), ← EReal.coe_neg, Ideal.div_coe hl'.ne', ← EReal.coe_mul]
  have hn : (Ideal.sqrt ((((x - y) * (x - y) + (x' - y') * (x' - y') : ℝ)) : EReal) ≤ Ideal.ofBits .f32 0x3C23D70A#32) = Pre.Near C r s := by
    show _ = (Ideal.sqrt ((C (ix2 r 0) - C (ix2 s 0)) * (C (ix2 r 0) - C (ix2 s 0)) + (C (ix2 r 1) - C (ix2 s 1)) * (C (ix2 r 1) - C (ix2 s 1))) ≤ Ideal.ofBits .f32 0x3C23D70A#32)
    rw [h0, h1, h2, h3, gap_real]
  rw [← sqrt_real _ (gap_nonneg x x' y y'), if_congr (iff_of_eq hn) rfl rfl]
  show ((Real.exp _ : ℝ) : EReal) * _ * _ = _
  rw [← EReal.coe_mul, ← EReal.coe_mul]

variable (H : Vec Ideal S4096x256 .f32) (C : Vec Ideal S4096x2 .f32) (W : Vec Ideal S3x256x256 .f32)

/-- What the precondition gives of every pair of points. -/
abbrev Given : Prop := ∀ r s : Fin 4096, (∃ x : ℝ, C (ix2 r 0) = (x : EReal)) ∧ (∃ x : ℝ, C (ix2 r 1) = (x : EReal))
      ∧ (Finset.univ.filter (Pre.Near C r)).card ≤ 20
      ∧ (Pre.Near C r s ↔ Ideal.sqrt (Pre.gap C r s + Ideal.ofBits .f32 0x0554AD2E#32) ≤ Ideal.ofBits .f32 0x3C23D70A#32)

/-- Every entry of the plain reference's array is kept. -/
theorem kept (hG : Given C) (w : Vec Ideal S1x256x256 .f32) (l : Vec Ideal S_ .f32) (l' : ℝ) (hl : l ix0 = (l' : EReal)) (hl' : 0 < l') (r s : Fin 4096) :
    keep (prior H C w l) (ix2 r s) = prior H C w l (ix2 r s) := by
  have val : ∀ j : Fin 4096, ∃ v : ℝ, 0 ≤ v ∧ prior H C w l (ix2 r j) = ((v * (if Pre.Near C r j then 1 else 0) : ℝ) : EReal) := fun j => by
    obtain ⟨⟨x, hx⟩, ⟨x', hx'⟩, -⟩ := hG r j
    obtain ⟨⟨y, hy⟩, ⟨y', hy'⟩, -⟩ := hG j r
    obtain ⟨t, ht⟩ := Elem.tanh_real (score H w r j)
    refine ⟨Real.exp (-Real.sqrt ((x - y) * (x - y) + (x' - y') * (x' - y')) * (1 / l')) * F (if r = j then 0 else t), mul_nonneg (Real.exp_pos _).le (Elem.F_nonneg _), (prior_real H C w l l' hl hl' r j x x' y y' t hx hx' hy hy' ht).trans ?_⟩
    congr 1
    ring
  refine keep_at _ r (fun j => ?_) (le_trans (Finset.card_le_card fun j hj => ?_) (hG r s).2.2.1) s
  · obtain ⟨v, hv, e⟩ := val j
    rw [e, ← EReal.coe_zero, EReal.coe_le_coe_iff]
    exact mul_nonneg hv (by split <;> norm_num)
  · obtain ⟨v, hv, e⟩ := val j
    rw [Finset.mem_filter] at hj ⊢
    refine ⟨Finset.mem_univ _, ?_⟩
    by_contra hn
    have := hj.2
    rw [e, if_neg hn, mul_zero, EReal.coe_zero] at this
    exact lt_irrefl _ this

/-- A difference of two reals within the bound. -/
theorem within (u v : EReal) (p p' : ℝ) (hu : u = (p : EReal)) (hv : v = (p' : EReal)) (h : |p - p'| ≤ 5368709 / 2147483648) :
    FloatOps.absf (F := Ideal) (φ := .f32) (u - v) ≤ Ideal.ofBits .f32 0x3B23D70A#32 := by
  rw [hu, hv, Elem.c_tol, ← EReal.coe_sub]
  show max (((p - p' : ℝ)) : EReal) (-((p - p' : ℝ) : EReal)) ≤ _
  rw [← EReal.coe_neg, max_le_iff, EReal.coe_le_coe_iff, EReal.coe_le_coe_iff]
  exact ⟨le_trans (le_abs_self _) h, le_trans (neg_le_abs _) h⟩

/-- The kernel's formula against the plain reference, of one layer. -/
theorem layer (hG : Given C) (k : Fin 3) (L : ℝ) (hk : decay k = ((-(((Real.log 2) * (L / 1000))⁻¹) : ℝ) : EReal)) (hL : 1 ≤ L)
    (w : Vec Ideal S1x256x256 .f32) (hw : ∀ e d, w (ix3 0 e d) = W (ix3 k e d)) (l : Vec Ideal S_ .f32) (l' : ℝ) (hl : l ix0 = (l' : EReal)) (hl' : 0 < l')
    (hLl : |1000 / L - 1 / l'| ≤ 1 / 10000) (r s : Fin 4096) :
    FloatOps.absf (F := Ideal) (φ := .f32) (form H C W k r s - keep (prior H C w l) (ix2 r s)) ≤ Ideal.ofBits .f32 0x3B23D70A#32 := by
  rw [kept H C hG w l l' hl hl']
  obtain ⟨⟨x, hx⟩, ⟨x', hx'⟩, -, hsame⟩ := hG r s
  obtain ⟨⟨y, hy⟩, ⟨y', hy'⟩, -⟩ := hG s r
  obtain ⟨f, t, ht, ht1, hf, hft⟩ := Elem.fit_close (score H w r s)
  have hp := prior_real H C w l l' hl hl' r s x x' y y' t hx hx' hy hy' ht
  by_cases e : r = s
  · have hN : Pre.Near C r s := by
      show Ideal.sqrt ((C (ix2 r 0) - C (ix2 s 0)) * (C (ix2 r 0) - C (ix2 s 0)) + (C (ix2 r 1) - C (ix2 s 1)) * (C (ix2 r 1) - C (ix2 s 1))) ≤ _
      rw [hx, hx', hy, hy', gap_real, sqrt_real _ (gap_nonneg x x' y y'), Alg.c_cut, EReal.coe_le_coe_iff]
      subst e
      have e0 : x = y := EReal.coe_eq_coe_iff.mp (hx.symm.trans hy)
      have e1 : x' = y' := EReal.coe_eq_coe_iff.mp (hx'.symm.trans hy')
      rw [e0, e1]
      norm_num
    refine within _ _ _ _ (by unfold form; rw [if_pos e]) hp ?_
    subst e
    have e0 : x = y := EReal.coe_eq_coe_iff.mp (hx.symm.trans hy)
    have e1 : x' = y' := EReal.coe_eq_coe_iff.mp (hx'.symm.trans hy')
    rw [if_pos hN, if_pos rfl, e0, e1]
    have : F 0 = Real.log 2 := by unfold F; rw [Real.exp_zero]; norm_num
    rw [this]
    norm_num
  · have hform := Alg.element x x' y y' L (by linarith) (fun d => ∑ e : Fin 256, H (ix2 r e) * W (ix3 k e d)) (fun d => H (ix2 s d)) _
      (Ideal.ofBits .f32 0x3F5031EB#32) (Ideal.ofBits .f32 0x3F000000#32) (Ideal.ofBits .f32 0xBE7AE148#32) rfl
    have hval : form H C W k r s = ((Real.exp (-(1000 * Real.sqrt ((x - y) * (x - y) + (x' - y') * (x' - y') + Alg.tiny)) * (1 / L)) * (if Pre.Near C r s then 1 else 0) * f : ℝ) : EReal) := by
      unfold form
      rw [if_neg e, hx, hx', hy, hy', hk]
      refine hform.symm.trans ?_
      have hs : Ideal.div (∑ d : Fin 256, (fun d => ∑ e : Fin 256, H (ix2 r e) * W (ix3 k e d)) d * (fun d => H (ix2 s d)) d) (Ideal.ofBits .f32 0x40800000#32) = score H w r s := by
        simp only [score, hw]
      rw [hs, hf, mask_num, gap_real]
      have hn : (Ideal.sqrt ((((x - y) * (x - y) + (x' - y') * (x' - y') : ℝ)) + Ideal.ofBits .f32 0x0554AD2E#32) ≤ Ideal.ofBits .f32 0x3C23D70A#32) ↔ Pre.Near C r s := by
        rw [hsame]
        show _ ↔ Ideal.sqrt ((C (ix2 r 0) - C (ix2 s 0)) * (C (ix2 r 0) - C (ix2 s 0)) + (C (ix2 r 1) - C (ix2 s 1)) * (C (ix2 r 1) - C (ix2 s 1)) + _) ≤ _
        rw [hx, hx', hy, hy', gap_real]
      rw [if_congr hn rfl rfl, Alg.c_tiny, ← EReal.coe_add, sqrt_real _ (add_nonneg (gap_nonneg x x' y y') Alg.tiny_pos.le), Alg.c_1000, ← EReal.coe_mul, ← EReal.coe_neg,
        Ideal.div_coe (by linarith), ← EReal.coe_mul]
      show ((Real.exp _ : ℝ) : EReal) * _ * _ = _
      rw [← EReal.coe_mul, ← EReal.coe_mul]
    refine within _ _ _ _ hval hp ?_
    rw [if_neg e]
    by_cases hN : Pre.Near C r s
    · rw [if_pos hN, mul_one, mul_one]
      refine Elem.near_close _ L l' f t (gap_nonneg x x' y y') (by linarith) hl' hLl hL ?_ ht1 hft
      have hN' : Ideal.sqrt ((C (ix2 r 0) - C (ix2 s 0)) * (C (ix2 r 0) - C (ix2 s 0)) + (C (ix2 r 1) - C (ix2 s 1)) * (C (ix2 r 1) - C (ix2 s 1))) ≤ Ideal.ofBits .f32 0x3C23D70A#32 := hN
      rw [hx, hx', hy, hy', gap_real, sqrt_real _ (gap_nonneg x x' y y'), Alg.c_cut, EReal.coe_le_coe_iff] at hN'
      exact hN'
    · rw [if_neg hN]
      norm_num

/-- The printed bound is met by the kernel's formula. -/
theorem all (hG : Given C) (o0 o1 o2 : Vec Ideal S4096x4096 .f32)
    (h0 : ∀ r s, o0 (ix2 r s) = form H C W 0 r s) (h1 : ∀ r s, o1 (ix2 r s) = form H C W 1 r s) (h2 : ∀ r s, o2 (ix2 r s) = form H C W 2 r s) :
    (Cert.Post_close.fn (F := Ideal) H C W o0 o1 o2).1 = (fun _ => 1#1)
      ∧ (Cert.Post_close.fn (F := Ideal) H C W o0 o1 o2).2.1 = (fun _ => 1#1)
      ∧ (Cert.Post_close.fn (F := Ideal) H C W o0 o1 o2).2.2 = (fun _ => 1#1) := by
  have yes : ∀ p : Prop, ∀ _ : Decidable p, p → BitVec.ofBool (decide p) = 1#1 := fun p _ h => by rw [decide_eq_true h]; rfl
  rw [parts]
  refine ⟨?_, ?_, ?_⟩
  all_goals
    funext i
    obtain ⟨r, s, rfl⟩ := Cert.FittedIdeal.Val.at_whole i
    refine (near_at _ _ r s).trans (yes _ _ ?_)
  · rw [h0]
    refine layer H C W hG 0 3 rfl (by norm_num) _ (fun e d => ?_) _ _ Elem.c_len0 (by norm_num) (by rw [abs_le]; norm_num) r s
    pointwise []
  · rw [h1]
    refine layer H C W hG 1 1 rfl (by norm_num) _ (fun e d => ?_) _ _ Elem.c_len1 (by norm_num) (by rw [abs_le]; norm_num) r s
    pointwise []
  · rw [h2]
    refine layer H C W hG 2 2 ?_ (by norm_num) _ (fun e d => ?_) _ _ Elem.c_len2 (by norm_num) (by rw [abs_le]; norm_num) r s
    · show ((-(((Real.log 2) * (1 / 500))⁻¹) : ℝ) : EReal) = _
      norm_num
    · pointwise []

end Cert.Close

end
-- ==== Proof.lean ====
/- The proof of the claims: the frames of the kernel at both instances, the rewrites of its named constants, and the
   agreement of its results with the plain whole-array formula, and their bound against the plain reference. -/
module

public import proofs.«01_k».proof.Defs
public import proofs.«01_k».proof.Proof.KB.Frame
public import proofs.«01_k».proof.Proof.KI.Frame
public import proofs.«01_k».proof.Proof.KI.Value
public import proofs.«01_k».proof.Proof.FI.At
public import proofs.«01_k».proof.Proof.Close
public import proofs.«01_k».proof.Proof.Gen.FittedIdeal.Run
public import proofs.«01_k».proof.Proof.Gen.Pre_finite_coords
public import proofs.«01_k».proof.Proof.Gen.Pre_sparse_rows
public import proofs.«01_k».proof.Proof.Gen.Post_close
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.Tactic Idealize.ShloMosaic.TcCoe

/-- The precondition makes every coordinate a real number. -/
theorem coords_real [Cert.Pre_finite_coords.Facts] (H : Vec Ideal Cert.Pre_finite_coords.S4096x256 .f32) (C : Vec Ideal Cert.Pre_finite_coords.S4096x2 .f32) (W : Vec Ideal Cert.Pre_finite_coords.S3x256x256 .f32)
    (h : Cert.Pre_finite_coords.fn (F := Ideal) H C W = fun _ => 1#1) (i : Cert.Pre_finite_coords.S4096x2.Idx) : ∃ x : ℝ, C i = (x : EReal) := by
  have e := congrFun h i
  revert e
  unfold Cert.Pre_finite_coords.fn
  pointwise []
  intro e
  have ht : Ideal.ofBits .f32 0x7F800000#32 = (⊤ : EReal) := by simp [Ideal.ofBits, Ideal.ieee]
  have hl : FloatOps.absf (F := Ideal) (φ := .f32) (C i) < (⊤ : EReal) := by
    by_contra hn
    rw [ht, decide_eq_false hn] at e
    exact absurd e (by decide)
  have hl' : max (C i) (-(C i)) < (⊤ : EReal) := hl
  rw [max_lt_iff] at hl'
  refine ⟨(C i).toReal, (EReal.coe_toReal hl'.1.ne ?_).symm⟩
  intro hb
  rw [hb] at hl'
  exact absurd hl'.2 (by simp)

theorem claim : Cert.Claim := ⟨Cert.Kernel.Gen.facts, Cert.KernelIdeal.Gen.facts, Cert.FittedIdeal.Gen.facts, Cert.Pre_finite_coords.Gen.facts, Cert.Pre_sparse_rows.Gen.facts, Cert.Post_close.Gen.facts, by
  refine ⟨?_, ?_, ?_, ?_, ?_, ?_, ?_, ?_, ?_⟩
  · exact fun m g _ => Cert.Kernel.Gen.frame m g
  · exact fun m g _ => Cert.KernelIdeal.Gen.frame m g
  · exact fun m g _ => Cert.KernelIdeal.Gen.frame m g
  · exact fun m g _ => Cert.KernelIdeal.Gen.frame m g
  · exact fun m ρ _ => (θ_run Cert.FittedIdeal.defs _ _).mono (fun r h => ⟨fun c => (h c).2.2.2, sem_eq_zero_of_no_sems (by decide) r.2⟩) (Cert.FittedIdeal.Value.run (F := Ideal) m ρ)
  · exact fun m ρ _ => (θ_run Cert.FittedIdeal.defs _ _).mono (fun r h => ⟨fun c => (h c).2.2.2, sem_eq_zero_of_no_sems (by decide) r.2⟩) (Cert.FittedIdeal.Value.run (F := Ideal) m ρ)
  · exact ⟨IdealRules.named_const.statement Cert.KernelIdeal.κ "far" .f32 0x7149F2CA#32 _ rfl,
      IdealRules.named_const.statement Cert.KernelIdeal.κ "decay0" .f32 0xC3F072FD#32 _ rfl,
      IdealRules.named_const.statement Cert.KernelIdeal.κ "decay1" .f32 0xC4B4563E#32 _ rfl,
      IdealRules.named_const.statement Cert.KernelIdeal.κ "decay2" .f32 0xC434563E#32 _ rfl,
      IdealRules.named_const.statement Cert.KernelIdeal.κ "ln2" .f32 0x3F317218#32 _ rfl⟩
  · intro m g m' g' hp ha
    have hC := fun c i => coords_real _ _ _ (hp c) i
    refine ⟨fun c => Cert.KernelIdeal.Val.arr m c 0, fun c => Cert.KernelIdeal.Val.arr m c 1, fun c => Cert.KernelIdeal.Val.arr m c 2, Cert.KernelIdeal.Val.run m g, ?_⟩
    refine (θ_run Cert.FittedIdeal.defs _ _).mono (fun r h c => ⟨(h c).1.trans ?_, (h c).2.1.trans ?_, (h c).2.2.1.trans ?_, (h c).2.2.2⟩) (Cert.FittedIdeal.Value.run (F := Ideal) m' g')
    all_goals
      obtain ⟨h0, h1, h2⟩ := ha c
      have hC' : ∀ i, ∃ x : ℝ, (m' ((c.tc : Thread Cert.FittedIdeal.nD Cert.FittedIdeal.τ).loc Cert.FittedIdeal.main_arg1) : Vec Ideal Cert.FittedIdeal.S4096x2 .f32) i = (x : EReal) := by
        rw [h1]; exact hC c
      funext i
      obtain ⟨a, b, rfl⟩ := Cert.FittedIdeal.Val.at_whole i
    · refine (Cert.FittedIdeal.Val.out0_at m' c hC' a b).trans ?_
      rw [h0, h1, h2]
      rfl
    · refine (Cert.FittedIdeal.Val.out1_at m' c hC' a b).trans ?_
      rw [h0, h1, h2]
      rfl
    · refine (Cert.FittedIdeal.Val.out2_at m' c hC' a b).trans ?_
      rw [h0, h1, h2]
      rfl
  · intro m g hp
    have : Cert.Pre_sparse_rows.Facts := Cert.Pre_sparse_rows.Gen.facts
    have : Cert.Post_close.Facts := Cert.Post_close.Gen.facts
    refine (θ_run Cert.KernelIdeal.defs _ _).mono (fun r h c => ?_) (Cert.KernelIdeal.Val.run m g)
    obtain ⟨e0, e1, e2, a0, a1, a2⟩ := h c
    refine ⟨a0, a1, a2, ?_⟩
    rw [e0, e1, e2]
    exact Cert.Close.all _ _ _ (fun r s => Cert.Pre.read _ _ _ (hp c) r s) _ _ _ (fun _ _ => rfl) (fun _ _ => rfl) (fun _ _ => rfl)⟩

end Cert.Proof

end
